-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![16384, 512]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S512x1 : Shape := ⟨2, ![512, 1]⟩
abbrev S4096x512 : Shape := ⟨2, ![4096, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : IVec S512x1 32) (main_arg1 : FVec F S4096x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg0 main_v0
  let main_c_0 : IVec S_ 32 := constantI S_ 32 16384#32
  let main_v2 : IVec S512x1 32 := broadcastInDim S512x1 ![] bcast_S_S512x1 main_c_0
  let main_v3 : IVec S512x1 1 := cmpi .slt main_arg0 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_ids_in_range_ReferenceIdeal.lean ====
abbrev S512x1 : Shape := ⟨2, ![512, 1]⟩
abbrev S16384x512 : Shape := ⟨2, ![16384, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : IVec S512x1 32) (main_arg1 : FVec F S16384x512 .bf16) : IVec S_ 1 :=
  let main_c : IVec S_ 32 := constantI S_ 32 0#32
  let main_v0 : IVec S512x1 32 := broadcastInDim S512x1 ![] bcast_S_S512x1 main_c
  let main_v1 : IVec S512x1 1 := cmpi .sge main_arg0 main_v0
  let main_c_0 : IVec S_ 32 := constantI S_ 32 16384#32
  let main_v2 : IVec S512x1 32 := broadcastInDim S512x1 ![] bcast_S_S512x1 main_c_0
  let main_v3 : IVec S512x1 1 := cmpi .slt main_arg0 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x1 : Shape := ⟨2, ![512, 1]⟩
abbrev S4096x512 : Shape := ⟨2, ![4096, 512]⟩
abbrev S512x512 : Shape := ⟨2, ![512, 512]⟩
abbrev S4x64x512 : Shape := ⟨3, ![4, 64, 512]⟩
abbrev S8x64x512 : Shape := ⟨3, ![8, 64, 512]⟩
abbrev S3 : Shape := ⟨1, ![3]⟩
abbrev S4 : Shape := ⟨1, ![4]⟩
abbrev S7 : Shape := ⟨1, ![7]⟩
abbrev S8 : Shape := ⟨1, ![8]⟩
abbrev S_ : Shape := ⟨0, ![]⟩
abbrev S64x1 : Shape := ⟨2, ![64, 1]⟩
abbrev S64x4096 : Shape := ⟨2, ![64, 4096]⟩
abbrev S64x512 : Shape := ⟨2, ![64, 512]⟩
abbrev S1x64x512 : Shape := ⟨3, ![1, 64, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x1, .i32⟩
  | .hbm, ⟨1, _⟩ => ⟨S4096x512, .bf16⟩
  | .hbm, ⟨2, _⟩ => ⟨S512x512, .bf16⟩
  | .local _ .vmem, ⟨0, _⟩ => ⟨S512x1, .i32⟩
  | .local _ .vmem, ⟨1, _⟩ => ⟨S4096x512, .bf16⟩
  | .local _ .vmem, ⟨2, _⟩ => ⟨S512x512, .bf16⟩
  | .local _ .vmem, ⟨3, _⟩ => ⟨S4x64x512, .bf16⟩
  | .local _ .vmem, ⟨4, _⟩ => ⟨S8x64x512, .bf16⟩
  | _, _ => ⟨S512x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v24 : BitVec 32 := Scalar.muli v2 c16_i32_10
  let v25 : BitVec 32 := Scalar.addi c0_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v13 : BitVec 32 := Scalar.addi v5 c1_i32_3
  let c4_i32_4 : BitVec 32 := 4#32
  let c0_i32 : BitVec 32 := 0#32
  let v14 : BitVec 1 := Scalar.cmpi .eq c4_i32_4 c0_i32
  let c1_i32_5 : BitVec 32 := 1#32
  let v15 : BitVec 32 := Scalar.select v14 c1_i32_5 c4_i32_4
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let c4_i32_12 : BitVec 32 := 4#32
  let v26 : BitVec 32 := Scalar.muli v23 c4_i32_12
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v28 : BitVec 32 := Scalar.muli v8 c1_i32_13
  let v29 : BitVec 32 := Scalar.addi v27 v28
  v29.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v41 : BitVec 32 := Scalar.muli v2 c16_i32_22
  let v42 : BitVec 32 := Scalar.addi c0_i32_23 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_14 : BitVec 32 := 2#32
  let v30 : BitVec 32 := Scalar.addi v5 c2_i32_14
  let c4_i32_15 : BitVec 32 := 4#32
  let c0_i32_16 : BitVec 32 := 0#32
  let v31 : BitVec 1 := Scalar.cmpi .eq c4_i32_15 c0_i32_16
  let c1_i32_17 : BitVec 32 := 1#32
  let v32 : BitVec 32 := Scalar.select v31 c1_i32_17 c4_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_24 : BitVec 32 := 4#32
  let v43 : BitVec 32 := Scalar.muli v40 c4_i32_24
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v45 : BitVec 32 := Scalar.muli v8 c1_i32_25
  let v46 : BitVec 32 := Scalar.addi v44 v45
  v46.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v58 : BitVec 32 := Scalar.muli v2 c16_i32_33
  let v59 : BitVec 32 := Scalar.addi c0_i32_34 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v47 : BitVec 32 := Scalar.addi v5 c3_i32
  let c4_i32_26 : BitVec 32 := 4#32
  let c0_i32_27 : BitVec 32 := 0#32
  let v48 : BitVec 1 := Scalar.cmpi .eq c4_i32_26 c0_i32_27
  let c1_i32_28 : BitVec 32 := 1#32
  let v49 : BitVec 32 := Scalar.select v48 c1_i32_28 c4_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c4_i32_35 : BitVec 32 := 4#32
  let v60 : BitVec 32 := Scalar.muli v57 c4_i32_35
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v62 : BitVec 32 := Scalar.muli v8 c1_i32_36
  let v63 : BitVec 32 := Scalar.addi v61 v62
  v63.toNat
def k0_dev4 (d0 : Dev nD) : Nat :=
  let c0_i32_85 : BitVec 32 := 0#32
  let c1_i32_37 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v64 : BitVec 32 := Scalar.subi c1_i32_37 v2
  let c16_i32_84 : BitVec 32 := 16#32
  let v134 : BitVec 32 := Scalar.muli v64 c16_i32_84
  let v135 : BitVec 32 := Scalar.addi c0_i32_85 v134
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v136 : BitVec 32 := Scalar.muli v5 c4_i32_86
  let v137 : BitVec 32 := Scalar.addi v135 v136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v138 : BitVec 32 := Scalar.muli v8 c1_i32_87
  let v139 : BitVec 32 := Scalar.addi v137 v138
  v139.toNat
def k0_dev5 (d0 : Dev nD) : Nat :=
  let c0_i32_90 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_89 : BitVec 32 := 16#32
  let v140 : BitVec 32 := Scalar.muli v2 c16_i32_89
  let v141 : BitVec 32 := Scalar.addi c0_i32_90 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_91 : BitVec 32 := 4#32
  let v142 : BitVec 32 := Scalar.muli v5 c4_i32_91
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v65 : BitVec 32 := Scalar.addi v8 c1_i32_38
  let c4_i32_39 : BitVec 32 := 4#32
  let c0_i32_40 : BitVec 32 := 0#32
  let v66 : BitVec 1 := Scalar.cmpi .eq c4_i32_39 c0_i32_40
  let c1_i32_41 : BitVec 32 := 1#32
  let v67 : BitVec 32 := Scalar.select v66 c1_i32_41 c4_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_92 : BitVec 32 := 1#32
  let v144 : BitVec 32 := Scalar.muli v75 c1_i32_92
  let v145 : BitVec 32 := Scalar.addi v143 v144
  v145.toNat
def k0_dev6 (d0 : Dev nD) : Nat :=
  let c0_i32_95 : BitVec 32 := 0#32
  let c1_i32_45 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v76 : BitVec 32 := Scalar.subi c1_i32_45 v2
  let c16_i32_94 : BitVec 32 := 16#32
  let v146 : BitVec 32 := Scalar.muli v76 c16_i32_94
  let v147 : BitVec 32 := Scalar.addi c0_i32_95 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_96 : BitVec 32 := 4#32
  let v148 : BitVec 32 := Scalar.muli v5 c4_i32_96
  let v149 : BitVec 32 := Scalar.addi v147 v148
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v77 : BitVec 32 := Scalar.addi v8 c1_i32_46
  let c4_i32_47 : BitVec 32 := 4#32
  let c0_i32_48 : BitVec 32 := 0#32
  let v78 : BitVec 1 := Scalar.cmpi .eq c4_i32_47 c0_i32_48
  let c1_i32_49 : BitVec 32 := 1#32
  let v79 : BitVec 32 := Scalar.select v78 c1_i32_49 c4_i32_47
  let v80 : BitVec 32 := Scalar.remsi v77 v79
  let c0_i32_51 : BitVec 32 := 0#32
  let v82 : BitVec 1 := Scalar.cmpi .slt v80 c0_i32_51
  let c0_i32_52 : BitVec 32 := 0#32
  let v83 : BitVec 1 := Scalar.cmpi .slt v79 c0_i32_52
  let v84 : BitVec 1 := Scalar.xori v82 v83
  let c0_i32_50 : BitVec 32 := 0#32
  let v81 : BitVec 1 := Scalar.cmpi .ne v80 c0_i32_50
  let v85 : BitVec 1 := Scalar.andi v84 v81
  let v86 : BitVec 32 := Scalar.addi v80 v79
  let v87 : BitVec 32 := Scalar.select v85 v86 v80
  let c1_i32_97 : BitVec 32 := 1#32
  let v150 : BitVec 32 := Scalar.muli v87 c1_i32_97
  let v151 : BitVec 32 := Scalar.addi v149 v150
  v151.toNat
def k0_dev7 (d0 : Dev nD) : Nat :=
  let c0_i32_100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_99 : BitVec 32 := 16#32
  let v152 : BitVec 32 := Scalar.muli v2 c16_i32_99
  let v153 : BitVec 32 := Scalar.addi c0_i32_100 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v154 : BitVec 32 := Scalar.muli v5 c4_i32_101
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_53 : BitVec 32 := 2#32
  let v88 : BitVec 32 := Scalar.addi v8 c2_i32_53
  let c4_i32_54 : BitVec 32 := 4#32
  let c0_i32_55 : BitVec 32 := 0#32
  let v89 : BitVec 1 := Scalar.cmpi .eq c4_i32_54 c0_i32_55
  let c1_i32_56 : BitVec 32 := 1#32
  let v90 : BitVec 32 := Scalar.select v89 c1_i32_56 c4_i32_54
  let v91 : BitVec 32 := Scalar.remsi v88 v90
  let c0_i32_58 : BitVec 32 := 0#32
  let v93 : BitVec 1 := Scalar.cmpi .slt v91 c0_i32_58
  let c0_i32_59 : BitVec 32 := 0#32
  let v94 : BitVec 1 := Scalar.cmpi .slt v90 c0_i32_59
  let v95 : BitVec 1 := Scalar.xori v93 v94
  let c0_i32_57 : BitVec 32 := 0#32
  let v92 : BitVec 1 := Scalar.cmpi .ne v91 c0_i32_57
  let v96 : BitVec 1 := Scalar.andi v95 v92
  let v97 : BitVec 32 := Scalar.addi v91 v90
  let v98 : BitVec 32 := Scalar.select v96 v97 v91
  let c1_i32_102 : BitVec 32 := 1#32
  let v156 : BitVec 32 := Scalar.muli v98 c1_i32_102
  let v157 : BitVec 32 := Scalar.addi v155 v156
  v157.toNat
def k0_dev8 (d0 : Dev nD) : Nat :=
  let c0_i32_105 : BitVec 32 := 0#32
  let c1_i32_60 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v99 : BitVec 32 := Scalar.subi c1_i32_60 v2
  let c16_i32_104 : BitVec 32 := 16#32
  let v158 : BitVec 32 := Scalar.muli v99 c16_i32_104
  let v159 : BitVec 32 := Scalar.addi c0_i32_105 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_106 : BitVec 32 := 4#32
  let v160 : BitVec 32 := Scalar.muli v5 c4_i32_106
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_61 : BitVec 32 := 2#32
  let v100 : BitVec 32 := Scalar.addi v8 c2_i32_61
  let c4_i32_62 : BitVec 32 := 4#32
  let c0_i32_63 : BitVec 32 := 0#32
  let v101 : BitVec 1 := Scalar.cmpi .eq c4_i32_62 c0_i32_63
  let c1_i32_64 : BitVec 32 := 1#32
  let v102 : BitVec 32 := Scalar.select v101 c1_i32_64 c4_i32_62
  let v103 : BitVec 32 := Scalar.remsi v100 v102
  let c0_i32_66 : BitVec 32 := 0#32
  let v105 : BitVec 1 := Scalar.cmpi .slt v103 c0_i32_66
  let c0_i32_67 : BitVec 32 := 0#32
  let v106 : BitVec 1 := Scalar.cmpi .slt v102 c0_i32_67
  let v107 : BitVec 1 := Scalar.xori v105 v106
  let c0_i32_65 : BitVec 32 := 0#32
  let v104 : BitVec 1 := Scalar.cmpi .ne v103 c0_i32_65
  let v108 : BitVec 1 := Scalar.andi v107 v104
  let v109 : BitVec 32 := Scalar.addi v103 v102
  let v110 : BitVec 32 := Scalar.select v108 v109 v103
  let c1_i32_107 : BitVec 32 := 1#32
  let v162 : BitVec 32 := Scalar.muli v110 c1_i32_107
  let v163 : BitVec 32 := Scalar.addi v161 v162
  v163.toNat
def k0_dev9 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v164 : BitVec 32 := Scalar.muli v2 c16_i32_109
  let v165 : BitVec 32 := Scalar.addi c0_i32_110 v164
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_111 : BitVec 32 := 4#32
  let v166 : BitVec 32 := Scalar.muli v5 c4_i32_111
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_68 : BitVec 32 := 3#32
  let v111 : BitVec 32 := Scalar.addi v8 c3_i32_68
  let c4_i32_69 : BitVec 32 := 4#32
  let c0_i32_70 : BitVec 32 := 0#32
  let v112 : BitVec 1 := Scalar.cmpi .eq c4_i32_69 c0_i32_70
  let c1_i32_71 : BitVec 32 := 1#32
  let v113 : BitVec 32 := Scalar.select v112 c1_i32_71 c4_i32_69
  let v114 : BitVec 32 := Scalar.remsi v111 v113
  let c0_i32_73 : BitVec 32 := 0#32
  let v116 : BitVec 1 := Scalar.cmpi .slt v114 c0_i32_73
  let c0_i32_74 : BitVec 32 := 0#32
  let v117 : BitVec 1 := Scalar.cmpi .slt v113 c0_i32_74
  let v118 : BitVec 1 := Scalar.xori v116 v117
  let c0_i32_72 : BitVec 32 := 0#32
  let v115 : BitVec 1 := Scalar.cmpi .ne v114 c0_i32_72
  let v119 : BitVec 1 := Scalar.andi v118 v115
  let v120 : BitVec 32 := Scalar.addi v114 v113
  let v121 : BitVec 32 := Scalar.select v119 v120 v114
  let c1_i32_112 : BitVec 32 := 1#32
  let v168 : BitVec 32 := Scalar.muli v121 c1_i32_112
  let v169 : BitVec 32 := Scalar.addi v167 v168
  v169.toNat
def k0_dev10 (d0 : Dev nD) : Nat :=
  let c0_i32_115 : BitVec 32 := 0#32
  let c1_i32_75 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v122 : BitVec 32 := Scalar.subi c1_i32_75 v2
  let c16_i32_114 : BitVec 32 := 16#32
  let v170 : BitVec 32 := Scalar.muli v122 c16_i32_114
  let v171 : BitVec 32 := Scalar.addi c0_i32_115 v170
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_116 : BitVec 32 := 4#32
  let v172 : BitVec 32 := Scalar.muli v5 c4_i32_116
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_76 : BitVec 32 := 3#32
  let v123 : BitVec 32 := Scalar.addi v8 c3_i32_76
  let c4_i32_77 : BitVec 32 := 4#32
  let c0_i32_78 : BitVec 32 := 0#32
  let v124 : BitVec 1 := Scalar.cmpi .eq c4_i32_77 c0_i32_78
  let c1_i32_79 : BitVec 32 := 1#32
  let v125 : BitVec 32 := Scalar.select v124 c1_i32_79 c4_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  let c1_i32_117 : BitVec 32 := 1#32
  let v174 : BitVec 32 := Scalar.muli v133 c1_i32_117
  let v175 : BitVec 32 := Scalar.addi v173 v174
  v175.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c64_i32 : BitVec 32 := 64#32
  let v11 : BitVec 32 := Scalar.muli v10 c64_i32
  let v176 : Index := Scalar.indexCast v11
  let c0 : Index := 0#32
  ![v176.toNat, 0]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v191 : Index := Scalar.indexCast v5
  let c0_120 : Index := 0#32
  let c0_121 : Index := 0#32
  ![v191.toNat, 0, 0]
def k0_off3 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_134 : BitVec 32 := 0#32
  let c0_i32_135 : BitVec 32 := 0#32
  ![v5.toNat, 0, 0]
def k0_dev11 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_130 : BitVec 32 := 16#32
  let v206 : BitVec 32 := Scalar.muli v2 c16_i32_130
  let v207 : BitVec 32 := Scalar.addi c0_i32_131 v206
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_122 : BitVec 32 := 1#32
  let v195 : BitVec 32 := Scalar.addi v5 c1_i32_122
  let c4_i32_123 : BitVec 32 := 4#32
  let c0_i32_124 : BitVec 32 := 0#32
  let v196 : BitVec 1 := Scalar.cmpi .eq c4_i32_123 c0_i32_124
  let c1_i32_125 : BitVec 32 := 1#32
  let v197 : BitVec 32 := Scalar.select v196 c1_i32_125 c4_i32_123
  let v198 : BitVec 32 := Scalar.remsi v195 v197
  let c0_i32_127 : BitVec 32 := 0#32
  let v200 : BitVec 1 := Scalar.cmpi .slt v198 c0_i32_127
  let c0_i32_128 : BitVec 32 := 0#32
  let v201 : BitVec 1 := Scalar.cmpi .slt v197 c0_i32_128
  let v202 : BitVec 1 := Scalar.xori v200 v201
  let c0_i32_126 : BitVec 32 := 0#32
  let v199 : BitVec 1 := Scalar.cmpi .ne v198 c0_i32_126
  let v203 : BitVec 1 := Scalar.andi v202 v199
  let v204 : BitVec 32 := Scalar.addi v198 v197
  let v205 : BitVec 32 := Scalar.select v203 v204 v198
  let c4_i32_132 : BitVec 32 := 4#32
  let v208 : BitVec 32 := Scalar.muli v205 c4_i32_132
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v210 : BitVec 32 := Scalar.muli v8 c1_i32_133
  let v211 : BitVec 32 := Scalar.addi v209 v210
  v211.toNat
def k0_dev12 (d0 : Dev nD) : Nat :=
  let c0_i32_147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_146 : BitVec 32 := 16#32
  let v231 : BitVec 32 := Scalar.muli v2 c16_i32_146
  let v232 : BitVec 32 := Scalar.addi c0_i32_147 v231
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_138 : BitVec 32 := 2#32
  let v220 : BitVec 32 := Scalar.addi v5 c2_i32_138
  let c4_i32_139 : BitVec 32 := 4#32
  let c0_i32_140 : BitVec 32 := 0#32
  let v221 : BitVec 1 := Scalar.cmpi .eq c4_i32_139 c0_i32_140
  let c1_i32_141 : BitVec 32 := 1#32
  let v222 : BitVec 32 := Scalar.select v221 c1_i32_141 c4_i32_139
  let v223 : BitVec 32 := Scalar.remsi v220 v222
  let c0_i32_143 : BitVec 32 := 0#32
  let v225 : BitVec 1 := Scalar.cmpi .slt v223 c0_i32_143
  let c0_i32_144 : BitVec 32 := 0#32
  let v226 : BitVec 1 := Scalar.cmpi .slt v222 c0_i32_144
  let v227 : BitVec 1 := Scalar.xori v225 v226
  let c0_i32_142 : BitVec 32 := 0#32
  let v224 : BitVec 1 := Scalar.cmpi .ne v223 c0_i32_142
  let v228 : BitVec 1 := Scalar.andi v227 v224
  let v229 : BitVec 32 := Scalar.addi v223 v222
  let v230 : BitVec 32 := Scalar.select v228 v229 v223
  let c4_i32_148 : BitVec 32 := 4#32
  let v233 : BitVec 32 := Scalar.muli v230 c4_i32_148
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v235 : BitVec 32 := Scalar.muli v8 c1_i32_149
  let v236 : BitVec 32 := Scalar.addi v234 v235
  v236.toNat
def k0_dev13 (d0 : Dev nD) : Nat :=
  let c0_i32_163 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_162 : BitVec 32 := 16#32
  let v256 : BitVec 32 := Scalar.muli v2 c16_i32_162
  let v257 : BitVec 32 := Scalar.addi c0_i32_163 v256
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_154 : BitVec 32 := 3#32
  let v245 : BitVec 32 := Scalar.addi v5 c3_i32_154
  let c4_i32_155 : BitVec 32 := 4#32
  let c0_i32_156 : BitVec 32 := 0#32
  let v246 : BitVec 1 := Scalar.cmpi .eq c4_i32_155 c0_i32_156
  let c1_i32_157 : BitVec 32 := 1#32
  let v247 : BitVec 32 := Scalar.select v246 c1_i32_157 c4_i32_155
  let v248 : BitVec 32 := Scalar.remsi v245 v247
  let c0_i32_159 : BitVec 32 := 0#32
  let v250 : BitVec 1 := Scalar.cmpi .slt v248 c0_i32_159
  let c0_i32_160 : BitVec 32 := 0#32
  let v251 : BitVec 1 := Scalar.cmpi .slt v247 c0_i32_160
  let v252 : BitVec 1 := Scalar.xori v250 v251
  let c0_i32_158 : BitVec 32 := 0#32
  let v249 : BitVec 1 := Scalar.cmpi .ne v248 c0_i32_158
  let v253 : BitVec 1 := Scalar.andi v252 v249
  let v254 : BitVec 32 := Scalar.addi v248 v247
  let v255 : BitVec 32 := Scalar.select v253 v254 v248
  let c4_i32_164 : BitVec 32 := 4#32
  let v258 : BitVec 32 := Scalar.muli v255 c4_i32_164
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v260 : BitVec 32 := Scalar.muli v8 c1_i32_165
  let v261 : BitVec 32 := Scalar.addi v259 v260
  v261.toNat
def k0_off5 (d0 : Dev nD) (c1_i32_170 : BitVec 32) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v270 : BitVec 32 := Scalar.addi v5 c1_i32_170
  let c4_i32_171 : BitVec 32 := 4#32
  let c0_i32_172 : BitVec 32 := 0#32
  let v271 : BitVec 1 := Scalar.cmpi .eq c4_i32_171 c0_i32_172
  let c1_i32_173 : BitVec 32 := 1#32
  let v272 : BitVec 32 := Scalar.select v271 c1_i32_173 c4_i32_171
  let v273 : BitVec 32 := Scalar.remsi v270 v272
  let c0_i32_175 : BitVec 32 := 0#32
  let v275 : BitVec 1 := Scalar.cmpi .slt v273 c0_i32_175
  let c0_i32_176 : BitVec 32 := 0#32
  let v276 : BitVec 1 := Scalar.cmpi .slt v272 c0_i32_176
  let v277 : BitVec 1 := Scalar.xori v275 v276
  let c0_i32_174 : BitVec 32 := 0#32
  let v274 : BitVec 1 := Scalar.cmpi .ne v273 c0_i32_174
  let v278 : BitVec 1 := Scalar.andi v277 v274
  let v279 : BitVec 32 := Scalar.addi v273 v272
  let v280 : BitVec 32 := Scalar.select v278 v279 v273
  ![v280.toNat]
def k0_off6 (d0 : Dev nD) (c1_i32_170 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v270 : BitVec 32 := Scalar.addi v5 c1_i32_170
  let c4_i32_171 : BitVec 32 := 4#32
  let c0_i32_172 : BitVec 32 := 0#32
  let v271 : BitVec 1 := Scalar.cmpi .eq c4_i32_171 c0_i32_172
  let c1_i32_173 : BitVec 32 := 1#32
  let v272 : BitVec 32 := Scalar.select v271 c1_i32_173 c4_i32_171
  let v273 : BitVec 32 := Scalar.remsi v270 v272
  let c0_i32_175 : BitVec 32 := 0#32
  let v275 : BitVec 1 := Scalar.cmpi .slt v273 c0_i32_175
  let c0_i32_176 : BitVec 32 := 0#32
  let v276 : BitVec 1 := Scalar.cmpi .slt v272 c0_i32_176
  let v277 : BitVec 1 := Scalar.xori v275 v276
  let c0_i32_174 : BitVec 32 := 0#32
  let v274 : BitVec 1 := Scalar.cmpi .ne v273 c0_i32_174
  let v278 : BitVec 1 := Scalar.andi v277 v274
  let v279 : BitVec 32 := Scalar.addi v273 v272
  let v280 : BitVec 32 := Scalar.select v278 v279 v273
  let c0_i32_182 : BitVec 32 := 0#32
  let c0_i32_183 : BitVec 32 := 0#32
  ![v280.toNat, 0, 0]
def k0_off7 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let v350 : Index := Scalar.indexCast v10
  let c0_227 : Index := 0#32
  let c0_228 : Index := 0#32
  ![v350.toNat, 0, 0]
def k0_off8 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_off9 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_280 : BitVec 32 := 0#32
  let c0_i32_281 : BitVec 32 := 0#32
  ![v10.toNat, 0, 0]
def k0_dev14 (d0 : Dev nD) : Nat :=
  let c0_i32_277 : BitVec 32 := 0#32
  let c1_i32_229 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v354 : BitVec 32 := Scalar.subi c1_i32_229 v2
  let c16_i32_276 : BitVec 32 := 16#32
  let v424 : BitVec 32 := Scalar.muli v354 c16_i32_276
  let v425 : BitVec 32 := Scalar.addi c0_i32_277 v424
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_278 : BitVec 32 := 4#32
  let v426 : BitVec 32 := Scalar.muli v5 c4_i32_278
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v428 : BitVec 32 := Scalar.muli v8 c1_i32_279
  let v429 : BitVec 32 := Scalar.addi v427 v428
  v429.toNat
def k0_dev15 (d0 : Dev nD) : Nat :=
  let c0_i32_286 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_285 : BitVec 32 := 16#32
  let v438 : BitVec 32 := Scalar.muli v2 c16_i32_285
  let v439 : BitVec 32 := Scalar.addi c0_i32_286 v438
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_287 : BitVec 32 := 4#32
  let v440 : BitVec 32 := Scalar.muli v5 c4_i32_287
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v355 : BitVec 32 := Scalar.addi v8 c1_i32_230
  let c4_i32_231 : BitVec 32 := 4#32
  let c0_i32_232 : BitVec 32 := 0#32
  let v356 : BitVec 1 := Scalar.cmpi .eq c4_i32_231 c0_i32_232
  let c1_i32_233 : BitVec 32 := 1#32
  let v357 : BitVec 32 := Scalar.select v356 c1_i32_233 c4_i32_231
  let v358 : BitVec 32 := Scalar.remsi v355 v357
  let c0_i32_235 : BitVec 32 := 0#32
  let v360 : BitVec 1 := Scalar.cmpi .slt v358 c0_i32_235
  let c0_i32_236 : BitVec 32 := 0#32
  let v361 : BitVec 1 := Scalar.cmpi .slt v357 c0_i32_236
  let v362 : BitVec 1 := Scalar.xori v360 v361
  let c0_i32_234 : BitVec 32 := 0#32
  let v359 : BitVec 1 := Scalar.cmpi .ne v358 c0_i32_234
  let v363 : BitVec 1 := Scalar.andi v362 v359
  let v364 : BitVec 32 := Scalar.addi v358 v357
  let v365 : BitVec 32 := Scalar.select v363 v364 v358
  let c1_i32_288 : BitVec 32 := 1#32
  let v442 : BitVec 32 := Scalar.muli v365 c1_i32_288
  let v443 : BitVec 32 := Scalar.addi v441 v442
  v443.toNat
def k0_dev16 (d0 : Dev nD) : Nat :=
  let c0_i32_295 : BitVec 32 := 0#32
  let c1_i32_237 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v366 : BitVec 32 := Scalar.subi c1_i32_237 v2
  let c16_i32_294 : BitVec 32 := 16#32
  let v452 : BitVec 32 := Scalar.muli v366 c16_i32_294
  let v453 : BitVec 32 := Scalar.addi c0_i32_295 v452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v454 : BitVec 32 := Scalar.muli v5 c4_i32_296
  let v455 : BitVec 32 := Scalar.addi v453 v454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v367 : BitVec 32 := Scalar.addi v8 c1_i32_238
  let c4_i32_239 : BitVec 32 := 4#32
  let c0_i32_240 : BitVec 32 := 0#32
  let v368 : BitVec 1 := Scalar.cmpi .eq c4_i32_239 c0_i32_240
  let c1_i32_241 : BitVec 32 := 1#32
  let v369 : BitVec 32 := Scalar.select v368 c1_i32_241 c4_i32_239
  let v370 : BitVec 32 := Scalar.remsi v367 v369
  let c0_i32_243 : BitVec 32 := 0#32
  let v372 : BitVec 1 := Scalar.cmpi .slt v370 c0_i32_243
  let c0_i32_244 : BitVec 32 := 0#32
  let v373 : BitVec 1 := Scalar.cmpi .slt v369 c0_i32_244
  let v374 : BitVec 1 := Scalar.xori v372 v373
  let c0_i32_242 : BitVec 32 := 0#32
  let v371 : BitVec 1 := Scalar.cmpi .ne v370 c0_i32_242
  let v375 : BitVec 1 := Scalar.andi v374 v371
  let v376 : BitVec 32 := Scalar.addi v370 v369
  let v377 : BitVec 32 := Scalar.select v375 v376 v370
  let c1_i32_297 : BitVec 32 := 1#32
  let v456 : BitVec 32 := Scalar.muli v377 c1_i32_297
  let v457 : BitVec 32 := Scalar.addi v455 v456
  v457.toNat
def k0_dev17 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v466 : BitVec 32 := Scalar.muli v2 c16_i32_303
  let v467 : BitVec 32 := Scalar.addi c0_i32_304 v466
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v468 : BitVec 32 := Scalar.muli v5 c4_i32_305
  let v469 : BitVec 32 := Scalar.addi v467 v468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_245 : BitVec 32 := 2#32
  let v378 : BitVec 32 := Scalar.addi v8 c2_i32_245
  let c4_i32_246 : BitVec 32 := 4#32
  let c0_i32_247 : BitVec 32 := 0#32
  let v379 : BitVec 1 := Scalar.cmpi .eq c4_i32_246 c0_i32_247
  let c1_i32_248 : BitVec 32 := 1#32
  let v380 : BitVec 32 := Scalar.select v379 c1_i32_248 c4_i32_246
  let v381 : BitVec 32 := Scalar.remsi v378 v380
  let c0_i32_250 : BitVec 32 := 0#32
  let v383 : BitVec 1 := Scalar.cmpi .slt v381 c0_i32_250
  let c0_i32_251 : BitVec 32 := 0#32
  let v384 : BitVec 1 := Scalar.cmpi .slt v380 c0_i32_251
  let v385 : BitVec 1 := Scalar.xori v383 v384
  let c0_i32_249 : BitVec 32 := 0#32
  let v382 : BitVec 1 := Scalar.cmpi .ne v381 c0_i32_249
  let v386 : BitVec 1 := Scalar.andi v385 v382
  let v387 : BitVec 32 := Scalar.addi v381 v380
  let v388 : BitVec 32 := Scalar.select v386 v387 v381
  let c1_i32_306 : BitVec 32 := 1#32
  let v470 : BitVec 32 := Scalar.muli v388 c1_i32_306
  let v471 : BitVec 32 := Scalar.addi v469 v470
  v471.toNat
def k0_dev18 (d0 : Dev nD) : Nat :=
  let c0_i32_313 : BitVec 32 := 0#32
  let c1_i32_252 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v389 : BitVec 32 := Scalar.subi c1_i32_252 v2
  let c16_i32_312 : BitVec 32 := 16#32
  let v480 : BitVec 32 := Scalar.muli v389 c16_i32_312
  let v481 : BitVec 32 := Scalar.addi c0_i32_313 v480
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_314 : BitVec 32 := 4#32
  let v482 : BitVec 32 := Scalar.muli v5 c4_i32_314
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_253 : BitVec 32 := 2#32
  let v390 : BitVec 32 := Scalar.addi v8 c2_i32_253
  let c4_i32_254 : BitVec 32 := 4#32
  let c0_i32_255 : BitVec 32 := 0#32
  let v391 : BitVec 1 := Scalar.cmpi .eq c4_i32_254 c0_i32_255
  let c1_i32_256 : BitVec 32 := 1#32
  let v392 : BitVec 32 := Scalar.select v391 c1_i32_256 c4_i32_254
  let v393 : BitVec 32 := Scalar.remsi v390 v392
  let c0_i32_258 : BitVec 32 := 0#32
  let v395 : BitVec 1 := Scalar.cmpi .slt v393 c0_i32_258
  let c0_i32_259 : BitVec 32 := 0#32
  let v396 : BitVec 1 := Scalar.cmpi .slt v392 c0_i32_259
  let v397 : BitVec 1 := Scalar.xori v395 v396
  let c0_i32_257 : BitVec 32 := 0#32
  let v394 : BitVec 1 := Scalar.cmpi .ne v393 c0_i32_257
  let v398 : BitVec 1 := Scalar.andi v397 v394
  let v399 : BitVec 32 := Scalar.addi v393 v392
  let v400 : BitVec 32 := Scalar.select v398 v399 v393
  let c1_i32_315 : BitVec 32 := 1#32
  let v484 : BitVec 32 := Scalar.muli v400 c1_i32_315
  let v485 : BitVec 32 := Scalar.addi v483 v484
  v485.toNat
def k0_dev19 (d0 : Dev nD) : Nat :=
  let c0_i32_321 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_320 : BitVec 32 := 16#32
  let v494 : BitVec 32 := Scalar.muli v2 c16_i32_320
  let v495 : BitVec 32 := Scalar.addi c0_i32_321 v494
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_322 : BitVec 32 := 4#32
  let v496 : BitVec 32 := Scalar.muli v5 c4_i32_322
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_260 : BitVec 32 := 3#32
  let v401 : BitVec 32 := Scalar.addi v8 c3_i32_260
  let c4_i32_261 : BitVec 32 := 4#32
  let c0_i32_262 : BitVec 32 := 0#32
  let v402 : BitVec 1 := Scalar.cmpi .eq c4_i32_261 c0_i32_262
  let c1_i32_263 : BitVec 32 := 1#32
  let v403 : BitVec 32 := Scalar.select v402 c1_i32_263 c4_i32_261
  let v404 : BitVec 32 := Scalar.remsi v401 v403
  let c0_i32_265 : BitVec 32 := 0#32
  let v406 : BitVec 1 := Scalar.cmpi .slt v404 c0_i32_265
  let c0_i32_266 : BitVec 32 := 0#32
  let v407 : BitVec 1 := Scalar.cmpi .slt v403 c0_i32_266
  let v408 : BitVec 1 := Scalar.xori v406 v407
  let c0_i32_264 : BitVec 32 := 0#32
  let v405 : BitVec 1 := Scalar.cmpi .ne v404 c0_i32_264
  let v409 : BitVec 1 := Scalar.andi v408 v405
  let v410 : BitVec 32 := Scalar.addi v404 v403
  let v411 : BitVec 32 := Scalar.select v409 v410 v404
  let c1_i32_323 : BitVec 32 := 1#32
  let v498 : BitVec 32 := Scalar.muli v411 c1_i32_323
  let v499 : BitVec 32 := Scalar.addi v497 v498
  v499.toNat
def k0_dev20 (d0 : Dev nD) : Nat :=
  let c0_i32_329 : BitVec 32 := 0#32
  let c1_i32_267 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v412 : BitVec 32 := Scalar.subi c1_i32_267 v2
  let c16_i32_328 : BitVec 32 := 16#32
  let v508 : BitVec 32 := Scalar.muli v412 c16_i32_328
  let v509 : BitVec 32 := Scalar.addi c0_i32_329 v508
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_330 : BitVec 32 := 4#32
  let v510 : BitVec 32 := Scalar.muli v5 c4_i32_330
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_268 : BitVec 32 := 3#32
  let v413 : BitVec 32 := Scalar.addi v8 c3_i32_268
  let c4_i32_269 : BitVec 32 := 4#32
  let c0_i32_270 : BitVec 32 := 0#32
  let v414 : BitVec 1 := Scalar.cmpi .eq c4_i32_269 c0_i32_270
  let c1_i32_271 : BitVec 32 := 1#32
  let v415 : BitVec 32 := Scalar.select v414 c1_i32_271 c4_i32_269
  let v416 : BitVec 32 := Scalar.remsi v413 v415
  let c0_i32_273 : BitVec 32 := 0#32
  let v418 : BitVec 1 := Scalar.cmpi .slt v416 c0_i32_273
  let c0_i32_274 : BitVec 32 := 0#32
  let v419 : BitVec 1 := Scalar.cmpi .slt v415 c0_i32_274
  let v420 : BitVec 1 := Scalar.xori v418 v419
  let c0_i32_272 : BitVec 32 := 0#32
  let v417 : BitVec 1 := Scalar.cmpi .ne v416 c0_i32_272
  let v421 : BitVec 1 := Scalar.andi v420 v417
  let v422 : BitVec 32 := Scalar.addi v416 v415
  let v423 : BitVec 32 := Scalar.select v421 v422 v416
  let c1_i32_331 : BitVec 32 := 1#32
  let v512 : BitVec 32 := Scalar.muli v423 c1_i32_331
  let v513 : BitVec 32 := Scalar.addi v511 v512
  v513.toNat
def k0_off10 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c64_i32 : BitVec 32 := 64#32
  let v11 : BitVec 32 := Scalar.muli v10 c64_i32
  let v522 : Index := Scalar.indexCast v11
  let c0_336 : Index := 0#32
  ![v522.toNat, 0]
def k0_off11 (d0 : Dev nD) : Fin 1 → Nat :=
  let c1_i32_337 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v524 : BitVec 32 := Scalar.subi c1_i32_337 v2
  let c4_i32_383 : BitVec 32 := 4#32
  let v594 : BitVec 32 := Scalar.muli v524 c4_i32_383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v595 : BitVec 32 := Scalar.addi v594 v8
  ![v595.toNat]
def k0_off12 (d0 : Dev nD) : Fin 3 → Nat :=
  let c1_i32_337 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v524 : BitVec 32 := Scalar.subi c1_i32_337 v2
  let c4_i32_383 : BitVec 32 := 4#32
  let v594 : BitVec 32 := Scalar.muli v524 c4_i32_383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v595 : BitVec 32 := Scalar.addi v594 v8
  let c0_i32_389 : BitVec 32 := 0#32
  let c0_i32_390 : BitVec 32 := 0#32
  ![v595.toNat, 0, 0]
def k0_off13 (d0 : Dev nD) : Fin 3 → Nat :=
  let c1_i32_337 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v524 : BitVec 32 := Scalar.subi c1_i32_337 v2
  let c4_i32_383 : BitVec 32 := 4#32
  let v594 : BitVec 32 := Scalar.muli v524 c4_i32_383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v595 : BitVec 32 := Scalar.addi v594 v8
  let v608 : Index := Scalar.indexCast v595
  let c0_393 : Index := 0#32
  let c0_394 : Index := 0#32
  ![v608.toNat, 0, 0]
def k0_off14 (d0 : Dev nD) : Fin 2 → Nat :=
  let c1_i32_337 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v524 : BitVec 32 := Scalar.subi c1_i32_337 v2
  let c4_i32_383 : BitVec 32 := 4#32
  let v594 : BitVec 32 := Scalar.muli v524 c4_i32_383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v595 : BitVec 32 := Scalar.addi v594 v8
  let c64_i32_395 : BitVec 32 := 64#32
  let v611 : BitVec 32 := Scalar.muli v595 c64_i32_395
  let v612 : Index := Scalar.indexCast v611
  let c0_396 : Index := 0#32
  ![v612.toNat, 0]
def k0_off15 (d0 : Dev nD) (c1_i32_338 : BitVec 32) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_397 : BitVec 32 := 4#32
  let v614 : BitVec 32 := Scalar.muli v2 c4_i32_397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v525 : BitVec 32 := Scalar.addi v8 c1_i32_338
  let c4_i32_339 : BitVec 32 := 4#32
  let c0_i32_340 : BitVec 32 := 0#32
  let v526 : BitVec 1 := Scalar.cmpi .eq c4_i32_339 c0_i32_340
  let c1_i32_341 : BitVec 32 := 1#32
  let v527 : BitVec 32 := Scalar.select v526 c1_i32_341 c4_i32_339
  let v528 : BitVec 32 := Scalar.remsi v525 v527
  let c0_i32_343 : BitVec 32 := 0#32
  let v530 : BitVec 1 := Scalar.cmpi .slt v528 c0_i32_343
  let c0_i32_344 : BitVec 32 := 0#32
  let v531 : BitVec 1 := Scalar.cmpi .slt v527 c0_i32_344
  let v532 : BitVec 1 := Scalar.xori v530 v531
  let c0_i32_342 : BitVec 32 := 0#32
  let v529 : BitVec 1 := Scalar.cmpi .ne v528 c0_i32_342
  let v533 : BitVec 1 := Scalar.andi v532 v529
  let v534 : BitVec 32 := Scalar.addi v528 v527
  let v535 : BitVec 32 := Scalar.select v533 v534 v528
  let v615 : BitVec 32 := Scalar.addi v614 v535
  ![v615.toNat]
def k0_off16 (d0 : Dev nD) (c1_i32_338 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_397 : BitVec 32 := 4#32
  let v614 : BitVec 32 := Scalar.muli v2 c4_i32_397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v525 : BitVec 32 := Scalar.addi v8 c1_i32_338
  let c4_i32_339 : BitVec 32 := 4#32
  let c0_i32_340 : BitVec 32 := 0#32
  let v526 : BitVec 1 := Scalar.cmpi .eq c4_i32_339 c0_i32_340
  let c1_i32_341 : BitVec 32 := 1#32
  let v527 : BitVec 32 := Scalar.select v526 c1_i32_341 c4_i32_339
  let v528 : BitVec 32 := Scalar.remsi v525 v527
  let c0_i32_343 : BitVec 32 := 0#32
  let v530 : BitVec 1 := Scalar.cmpi .slt v528 c0_i32_343
  let c0_i32_344 : BitVec 32 := 0#32
  let v531 : BitVec 1 := Scalar.cmpi .slt v527 c0_i32_344
  let v532 : BitVec 1 := Scalar.xori v530 v531
  let c0_i32_342 : BitVec 32 := 0#32
  let v529 : BitVec 1 := Scalar.cmpi .ne v528 c0_i32_342
  let v533 : BitVec 1 := Scalar.andi v532 v529
  let v534 : BitVec 32 := Scalar.addi v528 v527
  let v535 : BitVec 32 := Scalar.select v533 v534 v528
  let v615 : BitVec 32 := Scalar.addi v614 v535
  let c0_i32_403 : BitVec 32 := 0#32
  let c0_i32_404 : BitVec 32 := 0#32
  ![v615.toNat, 0, 0]
def k0_off17 (d0 : Dev nD) (c1_i32_338 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_397 : BitVec 32 := 4#32
  let v614 : BitVec 32 := Scalar.muli v2 c4_i32_397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v525 : BitVec 32 := Scalar.addi v8 c1_i32_338
  let c4_i32_339 : BitVec 32 := 4#32
  let c0_i32_340 : BitVec 32 := 0#32
  let v526 : BitVec 1 := Scalar.cmpi .eq c4_i32_339 c0_i32_340
  let c1_i32_341 : BitVec 32 := 1#32
  let v527 : BitVec 32 := Scalar.select v526 c1_i32_341 c4_i32_339
  let v528 : BitVec 32 := Scalar.remsi v525 v527
  let c0_i32_343 : BitVec 32 := 0#32
  let v530 : BitVec 1 := Scalar.cmpi .slt v528 c0_i32_343
  let c0_i32_344 : BitVec 32 := 0#32
  let v531 : BitVec 1 := Scalar.cmpi .slt v527 c0_i32_344
  let v532 : BitVec 1 := Scalar.xori v530 v531
  let c0_i32_342 : BitVec 32 := 0#32
  let v529 : BitVec 1 := Scalar.cmpi .ne v528 c0_i32_342
  let v533 : BitVec 1 := Scalar.andi v532 v529
  let v534 : BitVec 32 := Scalar.addi v528 v527
  let v535 : BitVec 32 := Scalar.select v533 v534 v528
  let v615 : BitVec 32 := Scalar.addi v614 v535
  let v628 : Index := Scalar.indexCast v615
  let c0_407 : Index := 0#32
  let c0_408 : Index := 0#32
  ![v628.toNat, 0, 0]
def k0_off18 (d0 : Dev nD) (c1_i32_338 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_397 : BitVec 32 := 4#32
  let v614 : BitVec 32 := Scalar.muli v2 c4_i32_397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v525 : BitVec 32 := Scalar.addi v8 c1_i32_338
  let c4_i32_339 : BitVec 32 := 4#32
  let c0_i32_340 : BitVec 32 := 0#32
  let v526 : BitVec 1 := Scalar.cmpi .eq c4_i32_339 c0_i32_340
  let c1_i32_341 : BitVec 32 := 1#32
  let v527 : BitVec 32 := Scalar.select v526 c1_i32_341 c4_i32_339
  let v528 : BitVec 32 := Scalar.remsi v525 v527
  let c0_i32_343 : BitVec 32 := 0#32
  let v530 : BitVec 1 := Scalar.cmpi .slt v528 c0_i32_343
  let c0_i32_344 : BitVec 32 := 0#32
  let v531 : BitVec 1 := Scalar.cmpi .slt v527 c0_i32_344
  let v532 : BitVec 1 := Scalar.xori v530 v531
  let c0_i32_342 : BitVec 32 := 0#32
  let v529 : BitVec 1 := Scalar.cmpi .ne v528 c0_i32_342
  let v533 : BitVec 1 := Scalar.andi v532 v529
  let v534 : BitVec 32 := Scalar.addi v528 v527
  let v535 : BitVec 32 := Scalar.select v533 v534 v528
  let v615 : BitVec 32 := Scalar.addi v614 v535
  let c64_i32_409 : BitVec 32 := 64#32
  let v631 : BitVec 32 := Scalar.muli v615 c64_i32_409
  let v632 : Index := Scalar.indexCast v631
  let c0_410 : Index := 0#32
  ![v632.toNat, 0]
def k0_off19 (d0 : Dev nD) (c1_i32_346 : BitVec 32) : Fin 1 → Nat :=
  let c1_i32_345 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v536 : BitVec 32 := Scalar.subi c1_i32_345 v2
  let c4_i32_411 : BitVec 32 := 4#32
  let v634 : BitVec 32 := Scalar.muli v536 c4_i32_411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_346
  let c4_i32_347 : BitVec 32 := 4#32
  let c0_i32_348 : BitVec 32 := 0#32
  let v538 : BitVec 1 := Scalar.cmpi .eq c4_i32_347 c0_i32_348
  let c1_i32_349 : BitVec 32 := 1#32
  let v539 : BitVec 32 := Scalar.select v538 c1_i32_349 c4_i32_347
  let v540 : BitVec 32 := Scalar.remsi v537 v539
  let c0_i32_351 : BitVec 32 := 0#32
  let v542 : BitVec 1 := Scalar.cmpi .slt v540 c0_i32_351
  let c0_i32_352 : BitVec 32 := 0#32
  let v543 : BitVec 1 := Scalar.cmpi .slt v539 c0_i32_352
  let v544 : BitVec 1 := Scalar.xori v542 v543
  let c0_i32_350 : BitVec 32 := 0#32
  let v541 : BitVec 1 := Scalar.cmpi .ne v540 c0_i32_350
  let v545 : BitVec 1 := Scalar.andi v544 v541
  let v546 : BitVec 32 := Scalar.addi v540 v539
  let v547 : BitVec 32 := Scalar.select v545 v546 v540
  let v635 : BitVec 32 := Scalar.addi v634 v547
  ![v635.toNat]
def k0_off20 (d0 : Dev nD) (c1_i32_346 : BitVec 32) : Fin 3 → Nat :=
  let c1_i32_345 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v536 : BitVec 32 := Scalar.subi c1_i32_345 v2
  let c4_i32_411 : BitVec 32 := 4#32
  let v634 : BitVec 32 := Scalar.muli v536 c4_i32_411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_346
  let c4_i32_347 : BitVec 32 := 4#32
  let c0_i32_348 : BitVec 32 := 0#32
  let v538 : BitVec 1 := Scalar.cmpi .eq c4_i32_347 c0_i32_348
  let c1_i32_349 : BitVec 32 := 1#32
  let v539 : BitVec 32 := Scalar.select v538 c1_i32_349 c4_i32_347
  let v540 : BitVec 32 := Scalar.remsi v537 v539
  let c0_i32_351 : BitVec 32 := 0#32
  let v542 : BitVec 1 := Scalar.cmpi .slt v540 c0_i32_351
  let c0_i32_352 : BitVec 32 := 0#32
  let v543 : BitVec 1 := Scalar.cmpi .slt v539 c0_i32_352
  let v544 : BitVec 1 := Scalar.xori v542 v543
  let c0_i32_350 : BitVec 32 := 0#32
  let v541 : BitVec 1 := Scalar.cmpi .ne v540 c0_i32_350
  let v545 : BitVec 1 := Scalar.andi v544 v541
  let v546 : BitVec 32 := Scalar.addi v540 v539
  let v547 : BitVec 32 := Scalar.select v545 v546 v540
  let v635 : BitVec 32 := Scalar.addi v634 v547
  let c0_i32_417 : BitVec 32 := 0#32
  let c0_i32_418 : BitVec 32 := 0#32
  ![v635.toNat, 0, 0]
def k0_off21 (d0 : Dev nD) (c1_i32_346 : BitVec 32) : Fin 3 → Nat :=
  let c1_i32_345 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v536 : BitVec 32 := Scalar.subi c1_i32_345 v2
  let c4_i32_411 : BitVec 32 := 4#32
  let v634 : BitVec 32 := Scalar.muli v536 c4_i32_411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_346
  let c4_i32_347 : BitVec 32 := 4#32
  let c0_i32_348 : BitVec 32 := 0#32
  let v538 : BitVec 1 := Scalar.cmpi .eq c4_i32_347 c0_i32_348
  let c1_i32_349 : BitVec 32 := 1#32
  let v539 : BitVec 32 := Scalar.select v538 c1_i32_349 c4_i32_347
  let v540 : BitVec 32 := Scalar.remsi v537 v539
  let c0_i32_351 : BitVec 32 := 0#32
  let v542 : BitVec 1 := Scalar.cmpi .slt v540 c0_i32_351
  let c0_i32_352 : BitVec 32 := 0#32
  let v543 : BitVec 1 := Scalar.cmpi .slt v539 c0_i32_352
  let v544 : BitVec 1 := Scalar.xori v542 v543
  let c0_i32_350 : BitVec 32 := 0#32
  let v541 : BitVec 1 := Scalar.cmpi .ne v540 c0_i32_350
  let v545 : BitVec 1 := Scalar.andi v544 v541
  let v546 : BitVec 32 := Scalar.addi v540 v539
  let v547 : BitVec 32 := Scalar.select v545 v546 v540
  let v635 : BitVec 32 := Scalar.addi v634 v547
  let v648 : Index := Scalar.indexCast v635
  let c0_421 : Index := 0#32
  let c0_422 : Index := 0#32
  ![v648.toNat, 0, 0]
def k0_off22 (d0 : Dev nD) (c1_i32_346 : BitVec 32) : Fin 2 → Nat :=
  let c1_i32_345 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v536 : BitVec 32 := Scalar.subi c1_i32_345 v2
  let c4_i32_411 : BitVec 32 := 4#32
  let v634 : BitVec 32 := Scalar.muli v536 c4_i32_411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v537 : BitVec 32 := Scalar.addi v8 c1_i32_346
  let c4_i32_347 : BitVec 32 := 4#32
  let c0_i32_348 : BitVec 32 := 0#32
  let v538 : BitVec 1 := Scalar.cmpi .eq c4_i32_347 c0_i32_348
  let c1_i32_349 : BitVec 32 := 1#32
  let v539 : BitVec 32 := Scalar.select v538 c1_i32_349 c4_i32_347
  let v540 : BitVec 32 := Scalar.remsi v537 v539
  let c0_i32_351 : BitVec 32 := 0#32
  let v542 : BitVec 1 := Scalar.cmpi .slt v540 c0_i32_351
  let c0_i32_352 : BitVec 32 := 0#32
  let v543 : BitVec 1 := Scalar.cmpi .slt v539 c0_i32_352
  let v544 : BitVec 1 := Scalar.xori v542 v543
  let c0_i32_350 : BitVec 32 := 0#32
  let v541 : BitVec 1 := Scalar.cmpi .ne v540 c0_i32_350
  let v545 : BitVec 1 := Scalar.andi v544 v541
  let v546 : BitVec 32 := Scalar.addi v540 v539
  let v547 : BitVec 32 := Scalar.select v545 v546 v540
  let v635 : BitVec 32 := Scalar.addi v634 v547
  let c64_i32_423 : BitVec 32 := 64#32
  let v651 : BitVec 32 := Scalar.muli v635 c64_i32_423
  let v652 : Index := Scalar.indexCast v651
  let c0_424 : Index := 0#32
  ![v652.toNat, 0]
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1 : Shape := ⟨2, ![512, 1]⟩
abbrev S16384x512 : Shape := ⟨2, ![16384, 512]⟩
abbrev S512 : Shape := ⟨1, ![512]⟩
abbrev S_ : Shape := ⟨0, ![]⟩
abbrev S512x512 : Shape := ⟨2, ![512, 512]⟩

abbrev nBuf : Space → Nat
  | .hbm => 14
  | .vmem => 0
  | .smem => 0
  | _ => 0

abbrev bufTy : (tb : Table) → Fin (tcTables nBuf tb) → BufTy
  | .hbm, ⟨0, _⟩ => ⟨S512x1, .i32⟩
  | .hbm, ⟨1, _⟩ => ⟨S16384x512, .bf16⟩
  | .hbm, ⟨2, _⟩ => ⟨S512, .i32⟩
  | .hbm, ⟨3, _⟩ => ⟨S_, .i32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S512x512, .bf16⟩
  | .hbm, ⟨12, _⟩ => ⟨S512x512, .f32⟩
  | .hbm, ⟨13, _⟩ => ⟨S512x512, .bf16⟩
  | _, _ => ⟨S512x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Mesh.lean ====
/-
The mesh the kernel runs on: 32 devices at coordinates (x, y, z) of a 2 × 4 × 4 mesh, their ten peers, the slots of
the two gather buffers, and the semaphores of the transfers. The kernel's own chains of index arithmetic are decided
here, once, over the devices; nothing later mentions them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Memref
public import Idealize.ShloMosaic.Lib.Tactic

@[expose] public section

noncomputable section

namespace Cert.KProof

open Cert.KernelIdeal Cert.KernelIdeal.Gen
open Idealize.ShloMosaic
open Idealize.ShloMosaic.TcCoe

/-! ## Peers

A device's peers, in the order the kernel signals them, sends to them and waits for them: peers 0, 1, 2 are the other
devices of its row along `y`; peers 3 … 9 the other devices of its `x`–`z` plane. -/

set_option backward.proofsInPublic true in
/-- The `y` coordinate: the slot of the first gather buffer that is the device's own. -/
def yOf (c : Dev nD) : Fin 4 := ⟨c.val / 4 % 4, Nat.mod_lt _ (by decide)⟩
set_option backward.proofsInPublic true in
/-- The position in the `x`–`z` plane: the slot of the second gather buffer that is the device's own. -/
def sOf (c : Dev nD) : Fin 8 := ⟨(4 * (c.val / 16) + c.val % 4) % 8, Nat.mod_lt _ (by decide)⟩
set_option backward.proofsInPublic true in
/-- The device at `y` coordinate `j` with `c`'s position in the plane. -/
def yAt (c : Dev nD) (j : Fin 4) : Dev nD := ⟨(16 * (c.val / 16) + 4 * j.val + c.val % 4) % 32, Nat.mod_lt _ (by decide)⟩
set_option backward.proofsInPublic true in
/-- The device at position `s` of the plane with `c`'s `y` coordinate. -/
def sAt (c : Dev nD) (s : Fin 8) : Dev nD := ⟨(16 * (s.val / 4) + 4 * (c.val / 4 % 4) + s.val % 4) % 32, Nat.mod_lt _ (by decide)⟩

set_option backward.proofsInPublic true in
/-- Positions in the plane: `x` flipped or kept, `z` advanced by `k`. -/
def move (flip : ℕ) (k : ℕ) (s : Fin 8) : Fin 8 := ⟨(4 * ((s.val / 4 + flip) % 2) + (s.val % 4 + k) % 4) % 8, Nat.mod_lt _ (by decide)⟩

/-- Device `c`'s peer `p`. -/
def peer (p : Fin 10) (c : Dev nD) : Dev nD :=
  match p with
  | 0 => yAt c (yOf c + 1)
  | 1 => yAt c (yOf c + 2)
  | 2 => yAt c (yOf c + 3)
  | 3 => sAt c (move 1 0 (sOf c))
  | 4 => sAt c (move 0 1 (sOf c))
  | 5 => sAt c (move 1 1 (sOf c))
  | 6 => sAt c (move 0 2 (sOf c))
  | 7 => sAt c (move 1 2 (sOf c))
  | 8 => sAt c (move 0 3 (sOf c))
  | 9 => sAt c (move 1 3 (sOf c))

/-- The index under which `c` is a peer of its peer `p`. -/
def inv (p : Fin 10) : Fin 10 := (![2, 1, 0, 3, 8, 9, 6, 7, 4, 5] : Fin 10 → Fin 10) p

theorem inv_inv (p : Fin 10) : inv (inv p) = p := by revert p; decide
theorem peer_inv (p : Fin 10) (c : Dev nD) : peer (inv p) (peer p c) = c := by revert c p; decide +kernel
theorem peer_inv' (p : Fin 10) (c : Dev nD) : peer p (peer (inv p) c) = c := by
  have := peer_inv (inv p) c; rwa [inv_inv] at this
theorem inv_lt (p : Fin 10) : (inv p).val < 3 ↔ p.val < 3 := by revert p; decide

/-- Following peer `p` is a permutation of the devices. -/
def peerEquiv (p : Fin 10) : Dev nD ≃ Dev nD := ⟨peer p, peer (inv p), peer_inv p, peer_inv' p⟩
def invEquiv : Fin 10 ≃ Fin 10 := ⟨inv, inv, inv_inv, inv_inv⟩

/-! ## Slots

Twelve slots: 0 … 3 the four of the first buffer (one per `y`), 4 … 11 the eight of the second (one per position). -/

set_option backward.proofsInPublic true in
def ySl (j : Fin 4) : Fin 12 := ⟨j.val, by omega⟩
set_option backward.proofsInPublic true in
def fSl (s : Fin 8) : Fin 12 := ⟨s.val + 4, by omega⟩

/-- The slot a device sends to its peer `p`: its own, of the buffer the peers `p` share. -/
def mine (p : Fin 10) (c : Dev nD) : Fin 12 := if p.val < 3 then ySl (yOf c) else fSl (sOf c)
/-- The slot in which peer `p`'s block lands on device `c`. -/
def slot (p : Fin 10) (c : Dev nD) : Fin 12 := mine p (peer p c)
/-- The device whose block slot `q` of device `c` holds in the end. -/
def orig (q : Fin 12) (c : Dev nD) : Dev nD := if h : q.val < 4 then yAt c ⟨q.val, h⟩ else sAt c ⟨q.val - 4, by omega⟩

theorem mine_inv (p : Fin 10) (c : Dev nD) : mine (inv p) c = mine p c := by unfold mine; simp only [inv_lt]
theorem slot_inv_peer (p : Fin 10) (c : Dev nD) : slot (inv p) (peer p c) = mine p c := by
  unfold slot; rw [peer_inv, mine_inv]
theorem slot_lt (p : Fin 10) (c : Dev nD) : (slot p c).val < 4 ↔ p.val < 3 := by revert c p; decide +kernel
theorem mine_lt (p : Fin 10) (c : Dev nD) : (mine p c).val < 4 ↔ p.val < 3 := by revert c p; decide +kernel
theorem slot_inj (c : Dev nD) : Function.Injective fun p => slot p c := by revert c; decide +kernel
theorem orig_mine (p : Fin 10) (c : Dev nD) : orig (mine p c) c = c := by revert c p; decide +kernel
theorem orig_mine_peer (p : Fin 10) (c : Dev nD) : orig (mine p c) (peer p c) = c := by revert c p; decide +kernel

/-- The slots of a device in the order the proof holds them: the ten its peers write, and its own two. -/
def slots (c : Dev nD) : List (Fin 12) := (List.finRange 10).map (fun p => slot p c) ++ [mine 0 c, mine 9 c]
theorem slots_nodup (c : Dev nD) : (slots c).Nodup := by revert c; decide +kernel
theorem slots_all (c : Dev nD) (q : Fin 12) : q ∈ slots c := by revert c q; decide +kernel

/-! ## The kernel's device chains -/

theorem dev_sig (c : Dev nD) :
    (⟨k0_dev1 c, k0_dev1_lt c⟩ : Dev nD) = peer 0 c ∧ (⟨k0_dev2 c, k0_dev2_lt c⟩ : Dev nD) = peer 1 c
      ∧ (⟨k0_dev3 c, k0_dev3_lt c⟩ : Dev nD) = peer 2 c ∧ (⟨k0_dev4 c, k0_dev4_lt c⟩ : Dev nD) = peer 3 c
      ∧ (⟨k0_dev5 c, k0_dev5_lt c⟩ : Dev nD) = peer 4 c ∧ (⟨k0_dev6 c, k0_dev6_lt c⟩ : Dev nD) = peer 5 c
      ∧ (⟨k0_dev7 c, k0_dev7_lt c⟩ : Dev nD) = peer 6 c ∧ (⟨k0_dev8 c, k0_dev8_lt c⟩ : Dev nD) = peer 7 c
      ∧ (⟨k0_dev9 c, k0_dev9_lt c⟩ : Dev nD) = peer 8 c ∧ (⟨k0_dev10 c, k0_dev10_lt c⟩ : Dev nD) = peer 9 c := by
  revert c; decide +kernel
theorem dev_snd (c : Dev nD) :
    (⟨k0_dev11 c, k0_dev11_lt c⟩ : Dev nD) = peer 0 c ∧ (⟨k0_dev12 c, k0_dev12_lt c⟩ : Dev nD) = peer 1 c
      ∧ (⟨k0_dev13 c, k0_dev13_lt c⟩ : Dev nD) = peer 2 c ∧ (⟨k0_dev14 c, k0_dev14_lt c⟩ : Dev nD) = peer 3 c
      ∧ (⟨k0_dev15 c, k0_dev15_lt c⟩ : Dev nD) = peer 4 c ∧ (⟨k0_dev16 c, k0_dev16_lt c⟩ : Dev nD) = peer 5 c
      ∧ (⟨k0_dev17 c, k0_dev17_lt c⟩ : Dev nD) = peer 6 c ∧ (⟨k0_dev18 c, k0_dev18_lt c⟩ : Dev nD) = peer 7 c
      ∧ (⟨k0_dev19 c, k0_dev19_lt c⟩ : Dev nD) = peer 8 c ∧ (⟨k0_dev20 c, k0_dev20_lt c⟩ : Dev nD) = peer 9 c := by
  revert c; decide +kernel

/-! ## The kernel's offset chains -/

set_option backward.proofsInPublic true in
/-- The slot, in its own buffer, in which peer `p`'s block lands. -/
def ix (q : Fin 12) : ℕ := if q.val < 4 then q.val else q.val - 4

theorem off_mine (c : Dev nD) : k0_off2 c = ![ix (mine 0 c), 0, 0] ∧ k0_off4 c = ![ix (mine 0 c), 0, 0] ∧ k0_off3 c = ![ix (mine 0 c)]
    ∧ k0_off7 c = ![ix (mine 9 c), 0, 0] ∧ k0_off9 c = ![ix (mine 9 c), 0, 0] ∧ k0_off8 c = ![ix (mine 9 c)]
    ∧ k0_off1 c = ![64 * ix (mine 9 c), 0] ∧ k0_off10 c = ![64 * ix (mine 9 c), 0] := by revert c; decide +kernel
theorem off_y (c : Dev nD) : (k0_off5 c 1#32 = ![ix (slot 0 c)] ∧ k0_off6 c 1#32 = ![ix (slot 0 c), 0, 0])
    ∧ (k0_off5 c 2#32 = ![ix (slot 1 c)] ∧ k0_off6 c 2#32 = ![ix (slot 1 c), 0, 0])
    ∧ (k0_off5 c 3#32 = ![ix (slot 2 c)] ∧ k0_off6 c 3#32 = ![ix (slot 2 c), 0, 0]) := by revert c; decide +kernel
theorem off_f3 (c : Dev nD) : k0_off11 c = ![ix (slot 3 c)] ∧ k0_off12 c = ![ix (slot 3 c), 0, 0] ∧ k0_off13 c = ![ix (slot 3 c), 0, 0]
    ∧ k0_off14 c = ![64 * ix (slot 3 c), 0] := by revert c; decide +kernel
theorem off_same (c : Dev nD) (k : Fin 3) (w : BitVec 32) (hw : w = BitVec.ofNat 32 (1 + k.val)) (p : Fin 10) (hp : p.val = 4 + 2 * k.val) :
    k0_off15 c w = ![ix (slot p c)] ∧ k0_off16 c w = ![ix (slot p c), 0, 0] ∧ k0_off17 c w = ![ix (slot p c), 0, 0]
      ∧ k0_off18 c w = ![64 * ix (slot p c), 0] := by
  have key : ∀ (c : Dev nD) (k : Fin 3) (p : Fin 10), p.val = 4 + 2 * k.val → k0_off15 c (BitVec.ofNat 32 (1 + k.val)) = ![ix (slot p c)]
      ∧ k0_off16 c (BitVec.ofNat 32 (1 + k.val)) = ![ix (slot p c), 0, 0] ∧ k0_off17 c (BitVec.ofNat 32 (1 + k.val)) = ![ix (slot p c), 0, 0]
      ∧ k0_off18 c (BitVec.ofNat 32 (1 + k.val)) = ![64 * ix (slot p c), 0] := by decide +kernel
  subst hw; exact key c k p hp
theorem off_other (c : Dev nD) (k : Fin 3) (w : BitVec 32) (hw : w = BitVec.ofNat 32 (1 + k.val)) (p : Fin 10) (hp : p.val = 5 + 2 * k.val) :
    k0_off19 c w = ![ix (slot p c)] ∧ k0_off20 c w = ![ix (slot p c), 0, 0] ∧ k0_off21 c w = ![ix (slot p c), 0, 0]
      ∧ k0_off22 c w = ![64 * ix (slot p c), 0] := by
  have key : ∀ (c : Dev nD) (k : Fin 3) (p : Fin 10), p.val = 5 + 2 * k.val → k0_off19 c (BitVec.ofNat 32 (1 + k.val)) = ![ix (slot p c)]
      ∧ k0_off20 c (BitVec.ofNat 32 (1 + k.val)) = ![ix (slot p c), 0, 0] ∧ k0_off21 c (BitVec.ofNat 32 (1 + k.val)) = ![ix (slot p c), 0, 0]
      ∧ k0_off22 c (BitVec.ofNat 32 (1 + k.val)) = ![64 * ix (slot p c), 0] := by decide +kernel
  subst hw; exact key c k p hp

/-! ## The semaphores -/

/-- The runtime's barrier semaphore. -/
abbrev barS : Sem sig := (SemArray.scalar (sig.barrier 0 rfl) : Sems sig S_).sem
set_option backward.proofsInPublic true in
/-- The receive semaphore of a slot. -/
def rsem (q : Fin 12) : DmaSem sig := if q.val < 4 then ⟨6 + q.val, by have := q.isLt; show _ < 25; omega⟩ else ⟨13 + q.val, by have := q.isLt; show _ < 25; omega⟩
set_option backward.proofsInPublic true in
/-- The send semaphore of a peer. -/
def ssem (p : Fin 10) : DmaSem sig := if p.val < 3 then ⟨3 + p.val, by have := p.isLt; show _ < 25; omega⟩ else ⟨7 + p.val, by have := p.isLt; show _ < 25; omega⟩

theorem rsem_y (q : Fin 12) (hq : q.val < 4) (off : Fin S4.rank → ℕ) (h : off = ![ix q]) (inb : ∀ a, off a + S1.size a ≤ S4.size a) :
    ((cc0_scratch3.slice (Rect.unit (s := S4) off S1.size inb)).squeeze S_ squeezes_S1_S_).sem = rsem q := by
  subst h; revert inb; revert hq; revert q; decide +kernel
theorem rsem_f (q : Fin 12) (hq : ¬ q.val < 4) (off : Fin S8.rank → ℕ) (h : off = ![ix q]) (inb : ∀ a, off a + S1.size a ≤ S8.size a) :
    ((cc0_scratch5.slice (Rect.unit (s := S8) off S1.size inb)).squeeze S_ squeezes_S1_S_).sem = rsem q := by
  subst h; revert inb; revert hq; revert q; decide +kernel

theorem ssem_y (p : Fin 10) (hp : p.val < 3) (inb : ∀ a, (![p.val] : Fin 1 → ℕ) a + S1.size a ≤ S3.size a) :
    ((cc0_scratch2.slice (Rect.unit (s := S3) ![p.val] S1.size inb)).squeeze S_ squeezes_S1_S_).sem = ssem p := by
  revert inb; revert hp; revert p; decide +kernel
theorem ssem_f (p : Fin 10) (hp : ¬ p.val < 3) (inb : ∀ a, (![p.val - 3] : Fin 1 → ℕ) a + S1.size a ≤ S7.size a) :
    ((cc0_scratch4.slice (Rect.unit (s := S7) ![p.val - 3] S1.size inb)).squeeze S_ squeezes_S1_S_).sem = ssem p := by
  revert inb; revert hp; revert p; decide +kernel

theorem rsem_inj : Function.Injective rsem := by decide +kernel
theorem ssem_inj : Function.Injective ssem := by decide +kernel
theorem rsem_ne_ssem (q : Fin 12) (p : Fin 10) : rsem q ≠ ssem p := by revert q p; decide +kernel

end Cert.KProof

end
-- ==== Proof.Slots.lean ====
/-
The slots of the two gather buffers and the row blocks of the result, as memrefs: the kernel's own slices are these,
a load or a store through the kernel's rectangle is one of the slot, and a whole buffer is its slots.
-/
module

public import proofs.«01_k».proof.Proof.Mesh
public import Idealize.ShloMosaic.Lib.Rounds
public import Idealize.ShloMosaic.Lib.Pipeline.Launch
public import Idealize.ShloMosaic.Lib.Pipeline.Kit
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

/-! ## The resource algebra: the pipeline library's copy (duties `Unit`) and the kernel's own (duties `Fin 10`) -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A block: what a slot holds. -/
abbrev Blk (F : FTy → Type) : Type := FVec F S64x512 .bf16

abbrev yM : Memref sig .tc .vmem S4x64x512 .bf16 := Memref.whole cc0_scratch0
abbrev fM : Memref sig .tc .vmem S8x64x512 .bf16 := Memref.whole cc0_scratch1
abbrev oM : Memref sig .tc .vmem S512x512 .bf16 := Memref.whole cc0_stg2_0

/-! ## The slot memrefs -/

theorem ix_y (q : Fin 12) (hq : q.val < 4) : ∀ a, (![ix q, 0, 0] : Fin 3 → ℕ) a + S1x64x512.size a ≤ S4x64x512.size a := by
  revert hq; revert q; decide +kernel
theorem ix_f (q : Fin 12) (hq : ¬ q.val < 4) : ∀ a, (![ix q, 0, 0] : Fin 3 → ℕ) a + S1x64x512.size a ≤ S8x64x512.size a := by
  revert hq; revert q; decide +kernel
theorem ix_o (s : Fin 8) : ∀ a, (![64 * s.val, 0] : Fin 2 → ℕ) a + S64x512.size a ≤ S512x512.size a := by revert s; decide +kernel

abbrev yPre (off : Fin 3 → ℕ) (inb : ∀ a, off a + S1x64x512.size a ≤ S4x64x512.size a) : Memref sig .tc .vmem S1x64x512 .bf16 :=
  yM.slice (Rect.unit (s := S4x64x512) off S1x64x512.size inb) (fun _ => rfl)
abbrev fPre (off : Fin 3 → ℕ) (inb : ∀ a, off a + S1x64x512.size a ≤ S8x64x512.size a) : Memref sig .tc .vmem S1x64x512 .bf16 :=
  fM.slice (Rect.unit (s := S8x64x512) off S1x64x512.size inb) (fun _ => rfl)
abbrev oPre (off : Fin 2 → ℕ) (inb : ∀ a, off a + S64x512.size a ≤ S512x512.size a) : Memref sig .tc .vmem S64x512 .bf16 :=
  oM.slice (Rect.unit (s := S512x512) off S64x512.size inb) (fun _ => rfl)

/-- Slot `q` as a block. -/
def slotM (q : Fin 12) : Memref sig .tc .vmem S64x512 .bf16 :=
  if h : q.val < 4 then (yPre ![ix q, 0, 0] (ix_y q h)).squeeze S64x512 squeezes_S1x64x512_S64x512
  else (fPre ![ix q, 0, 0] (ix_f q h)).squeeze S64x512 squeezes_S1x64x512_S64x512
/-- Rows `64 s … 64 s + 63` of the result. -/
def oSlot (s : Fin 8) : Memref sig .tc .vmem S64x512 .bf16 := oPre ![64 * s.val, 0] (ix_o s)

/-- The kernel's slice of the first buffer at a slot's offset is the slot. -/
theorem slotM_y (q : Fin 12) (hq : q.val < 4) {off : Fin 3 → ℕ} (h : off = ![ix q, 0, 0]) (inb) :
    (yPre off inb).squeeze S64x512 squeezes_S1x64x512_S64x512 = slotM q := by
  subst h; unfold slotM; rw [dif_pos hq]
/-- The kernel's slice of the second buffer at a slot's offset is the slot. -/
theorem slotM_f (q : Fin 12) (hq : ¬ q.val < 4) {off : Fin 3 → ℕ} (h : off = ![ix q, 0, 0]) (inb) :
    (fPre off inb).squeeze S64x512 squeezes_S1x64x512_S64x512 = slotM q := by
  subst h; unfold slotM; rw [dif_neg hq]
theorem oSlot_eq (s : Fin 8) {off : Fin 2 → ℕ} (h : off = ![64 * s.val, 0]) (inb) : oPre off inb = oSlot s := by
  subst h; rfl

/-- A block's credit. -/
abbrev N : ℕ := (slotM 0).view.dmaCredit
theorem N_pos : 0 < N := View.dmaCredit_pos _ (by decide)
/-- Every slot's transfers carry the same credit. -/
theorem credit_slot (q : Fin 12) : (slotM q).view.dmaCredit = N := by
  have hy : ∀ (q : Fin 12) (h : q.val < 4), (slotM q).view.dmaCredit = N := fun q h => by
    unfold N; unfold slotM; rw [dif_pos h, dif_pos (by decide)]
  have hf : ∀ (q : Fin 12) (h : ¬ q.val < 4), (slotM q).view.dmaCredit = N := fun q h => by
    unfold N; unfold slotM; rw [dif_neg h, dif_pos (by decide)]
  by_cases h : q.val < 4
  · exact hy q h
  · exact hf q h

/-! ## Ownership of a squeezed memref -/

/-- A slice owned at `X` is its squeeze owned at `X` re-indexed, -/
theorem owns_squeeze (c : Thread nD τ) {sp : Space} {s s' : Shape} {e : EltTy} (m : Memref sig c.2.kind sp s e) (h : s.Squeezes s')
    (q : PosShare TreeShare) (X : s.Idx → Elt F e) :
    (owns c m q X : sProp 𝕄) ⊢ owns c (m.squeeze s' h) q (fun j => X (Shape.reshapeEquiv h.numel_eq j)) := by
  unfold owns
  iintro ⟨%f, %hf, H⟩
  iexists f
  isplitr
  · ipureintro; subst hf; rfl
  · simp only [Memref.view_squeeze, View.set_reshape]; iexact H
/-- and back. -/
theorem owns_unsqueeze (c : Thread nD τ) {sp : Space} {s s' : Shape} {e : EltTy} (m : Memref sig c.2.kind sp s e) (h : s.Squeezes s')
    (q : PosShare TreeShare) (X : s'.Idx → Elt F e) :
    (owns c (m.squeeze s' h) q X : sProp 𝕄) ⊢ iprop(∃ Y, ⌜(fun j => Y (Shape.reshapeEquiv h.numel_eq j)) = X⌝ ∗ owns c m q Y) := by
  unfold owns
  iintro ⟨%f, %hf, H⟩
  iexists m.view.read (Elt F) f
  isplitr
  · ipureintro; subst hf; rfl
  iexists f
  isplitr
  · ipureintro; rfl
  · simp only [Memref.view_squeeze, View.set_reshape]; iexact H

/-- Two shares of one memref at the same contents are one. -/
theorem owns_share (c : Thread nD τ) {sp : Space} {s : Shape} {e : EltTy} (m : Memref sig c.2.kind sp s e) {q q₁ q₂ : PosShare TreeShare}
    (h : q ∈ q₁ ·? q₂) (X : s.Idx → Elt F e) : iprop(owns c m q₁ X ∗ owns c m q₂ X) ⊢ (owns c m q X : sProp 𝕄) := by
  unfold owns
  iintro ⟨⟨%f, %hf, H⟩, ⟨%g, %hg, H'⟩⟩
  have hfg : ∀ i ∈ m.view.set, g i = f i := fun i hi => by
    obtain ⟨x, -, rfl⟩ := Finset.mem_map.mp hi
    have := congrFun (hf.trans hg.symm) x
    simp only [View.read] at this
    exact ((cast_inj _).mp this).symm
  ihave H'' := (Entails.of_eq (pointsTo_congr hfg)) $$ H'
  iexists f
  isplitr; · ipureintro; exact hf
  iapply (pointsTo_share h).2
  isplitl [H] <;> iassumption
/-- A share splits. -/
theorem owns_split (c : Thread nD τ) {sp : Space} {s : Shape} {e : EltTy} (m : Memref sig c.2.kind sp s e) {q q₁ q₂ : PosShare TreeShare}
    (h : q ∈ q₁ ·? q₂) (X : s.Idx → Elt F e) : (owns c m q X : sProp 𝕄) ⊢ iprop(owns c m q₁ X ∗ owns c m q₂ X) := by
  unfold owns
  iintro ⟨%f, %hf, H⟩
  icases (pointsTo_share h).1 $$ H with ⟨H₁, H₂⟩
  isplitl [H₁]
  · iexists f; isplitr; · ipureintro; exact hf
    iexact H₁
  · iexists f; isplitr; · ipureintro; exact hf
    iexact H₂

/-! ## Loads and stores through a rectangle -/

section Access
variable (c : Dev nD)

/-- A load through a rectangle, holding any share of the slice. -/
theorem wp_load_slice {α : Type} {Q : α → sProp 𝕄} {s : Shape} {e : EltTy} (m : Memref sig .tc .vmem s e) (r : Rect s) (hr : ∀ a, r.stride a = 1) (q : PosShare TreeShare)
    (X : r.shape.Idx → Elt F e) {hl : m.view.LoadsAt r.toLoadRect} {k : (r.shape.Idx → Elt F e) → Prog (TpuEff nD τ sig (Elt F) Λ₀ .tc) α} :
    (owns (c : Thread nD τ) (m.slice r hr) q X : sProp 𝕄)
      ⊢ iprop((owns (c : Thread nD τ) (m.slice r hr) q X -∗ wp frame (wpE (defs₀ (F := F)) 𝒱₀ (c : Thread nD τ) none) Set.univ (k X) Q)
          -∗ wp frame (wpE (defs₀ (F := F)) 𝒱₀ (c : Thread nD τ) none) Set.univ (.op (.load m r.toLoadRect hl) k) Q) := by
  unfold owns
  iintro ⟨%f, %hf, H⟩ Hk
  iapply (wp_load_rect 𝒱₀ (c : Thread nD τ) none Set.univ (r := r) (m := m) (q := q) (f := f) (S := (m.slice r hr).view.set) (Finset.Subset.refl _)) $$ H
  iintro H
  subst hf
  iapply Hk
  iexists f
  isplitr; · ipureintro; rfl
  iexact H

/-- A store of a whole rectangle, holding the slice. -/
theorem wp_store_slice {α : Type} {Q : α → sProp 𝕄} {s : Shape} {e : EltTy} (m : Memref sig .tc .vmem s e) (r : Rect s) (hr : ∀ a, r.stride a = 1)
    (X w : r.shape.Idx → Elt F e) {hx : (m.access r).Stores Finset.univ} {hm : Finset.univ = Finset.univ ∨ ∀ a, r.stride a = 1}
    {k : PUnit → Prog (TpuEff nD τ sig (Elt F) Λ₀ .tc) α} :
    (owns (c : Thread nD τ) (m.slice r hr) fullShare X : sProp 𝕄)
      ⊢ iprop((owns (c : Thread nD τ) (m.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (r := r) (m := m) (f := f) (S := (m.slice r hr).view.set) (Finset.Subset.refl _)) $$ H
  iintro H
  iapply Hk
  iexists (m.access r).write (Elt F) f w Finset.univ
  isplitr; · ipureintro; exact View.read_write_univ _ _
  iexact H

/-- A load through a rectangle, holding any share of the squeezed slice: the loaded value squeezed is what is held. -/
theorem wp_load_squeeze {α : Type} {Q : α → sProp 𝕄} {s s' : Shape} {e : EltTy} (m : Memref sig .tc .vmem s e) (r : Rect s) (hr : ∀ a, r.stride a = 1) (h : r.shape.Squeezes s')
    (q : PosShare TreeShare) (X : s'.Idx → Elt F e) {hl : m.view.LoadsAt r.toLoadRect}
    {k : (r.shape.Idx → Elt F e) → Prog (TpuEff nD τ sig (Elt F) Λ₀ .tc) α} :
    (owns (c : Thread nD τ) ((m.slice r hr).squeeze s' h) q X : sProp 𝕄)
      ⊢ iprop((∀ L, ⌜(fun j => L (Shape.reshapeEquiv h.numel_eq j)) = X⌝ -∗ owns (c : Thread nD τ) ((m.slice r hr).squeeze s' h) q X
            -∗ wp frame (wpE (defs₀ (F := F)) 𝒱₀ (c : Thread nD τ) none) Set.univ (k L) Q)
          -∗ wp frame (wpE (defs₀ (F := F)) 𝒱₀ (c : Thread nD τ) none) Set.univ (.op (.load m r.toLoadRect hl) k) Q) := by
  iintro H Hk
  icases (owns_unsqueeze (F := F) (c : Thread nD τ) (m.slice r hr) h q X) $$ H with ⟨%Y, %hY, H⟩
  iapply (wp_load_slice c m r hr q Y) $$ H
  iintro H
  ihave H' := (owns_squeeze (F := F) (c : Thread nD τ) (m.slice r hr) h q Y) $$ H
  subst hY
  iapply Hk $$ %Y
  · ipureintro; rfl
  · iexact H'

/-- A store of a whole rectangle, holding the squeezed slice. -/
theorem wp_store_squeeze {α : Type} {Q : α → sProp 𝕄} {s s' : Shape} {e : EltTy} (m : Memref sig .tc .vmem s e) (r : Rect s) (hr : ∀ a, r.stride a = 1) (h : r.shape.Squeezes s')
    (X : s'.Idx → Elt F e) (w : r.shape.Idx → Elt F e) {hx : (m.access r).Stores Finset.univ} {hm : Finset.univ = Finset.univ ∨ ∀ a, r.stride a = 1}
    {k : PUnit → Prog (TpuEff nD τ sig (Elt F) Λ₀ .tc) α} :
    (owns (c : Thread nD τ) ((m.slice r hr).squeeze s' h) fullShare X : sProp 𝕄)
      ⊢ iprop((owns (c : Thread nD τ) ((m.slice r hr).squeeze s' h) fullShare (fun j => w (Shape.reshapeEquiv h.numel_eq j))
            -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  iintro H Hk
  icases (owns_unsqueeze (F := F) (c : Thread nD τ) (m.slice r hr) h fullShare X) $$ H with ⟨%Y, %hY, H⟩
  iapply (wp_store_slice c m r hr Y w) $$ H
  iintro H
  iapply Hk
  iapply (owns_squeeze (F := F) (c : Thread nD τ) (m.slice r hr) h fullShare w)
  iexact H

/-! At the slots: the kernel's own accesses. -/

theorem wp_load_y {α : Type} {Q : α → sProp 𝕄} (q : Fin 12) (hq : q.val < 4) {off : Fin 3 → ℕ} (h : off = ![ix q, 0, 0]) {inb : ∀ a, off a + S1x64x512.size a ≤ S4x64x512.size a}
    (sh : PosShare TreeShare) (X : Blk F) {hl : yM.view.LoadsAt (Rect.unit (s := S4x64x512) off S1x64x512.size inb).toLoadRect}
    {k : (S1x64x512.Idx → Elt F .bf16) → Prog (TpuEff nD τ sig (Elt F) Λ₀ .tc) α} :
    (owns (c : Thread nD τ) (slotM q) sh X : sProp 𝕄)
      ⊢ iprop((∀ L, ⌜shapeCast S64x512 L shapeCasts_S1x64x512_S64x512 = X⌝ -∗ owns (c : Thread nD τ) (slotM q) sh X
            -∗ wp frame (wpE (defs₀ (F := F)) 𝒱₀ (c : Thread nD τ) none) Set.univ (k L) Q)
          -∗ wp frame (wpE (defs₀ (F := F)) 𝒱₀ (c : Thread nD τ) none) Set.univ
              (.op (.load yM (Rect.unit (s := S4x64x512) off S1x64x512.size inb).toLoadRect hl) k) Q) := by
  rw [← slotM_y q hq h inb]
  exact wp_load_squeeze c yM (Rect.unit (s := S4x64x512) off S1x64x512.size inb) (fun _ => rfl) squeezes_S1x64x512_S64x512 sh X

theorem wp_load_f {α : Type} {Q : α → sProp 𝕄} (q : Fin 12) (hq : ¬ q.val < 4) {off : Fin 3 → ℕ} (h : off = ![ix q, 0, 0]) {inb : ∀ a, off a + S1x64x512.size a ≤ S8x64x512.size a}
    (sh : PosShare TreeShare) (X : Blk F) {hl : fM.view.LoadsAt (Rect.unit (s := S8x64x512) off S1x64x512.size inb).toLoadRect}
    {k : (S1x64x512.Idx → Elt F .bf16) → Prog (TpuEff nD τ sig (Elt F) Λ₀ .tc) α} :
    (owns (c : Thread nD τ) (slotM q) sh X : sProp 𝕄)
      ⊢ iprop((∀ L, ⌜shapeCast S64x512 L shapeCasts_S1x64x512_S64x512 = X⌝ -∗ owns (c : Thread nD τ) (slotM q) sh X
            -∗ wp frame (wpE (defs₀ (F := F)) 𝒱₀ (c : Thread nD τ) none) Set.univ (k L) Q)
          -∗ wp frame (wpE (defs₀ (F := F)) 𝒱₀ (c : Thread nD τ) none) Set.univ
              (.op (.load fM (Rect.unit (s := S8x64x512) off S1x64x512.size inb).toLoadRect hl) k) Q) := by
  rw [← slotM_f q hq h inb]
  exact wp_load_squeeze c fM (Rect.unit (s := S8x64x512) off S1x64x512.size inb) (fun _ => rfl) squeezes_S1x64x512_S64x512 sh X

theorem wp_store_y {α : Type} {Q : α → sProp 𝕄} (q : Fin 12) (hq : q.val < 4) {off : Fin 3 → ℕ} (h : off = ![ix q, 0, 0]) {inb : ∀ a, off a + S1x64x512.size a ≤ S4x64x512.size a}
    (X : Blk F) {w : S1x64x512.Idx → Elt F .bf16} {hx : (yM.access (Rect.unit (s := S4x64x512) off S1x64x512.size inb)).Stores Finset.univ}
    {hm : Finset.univ = Finset.univ ∨ ∀ a, (Rect.unit (s := S4x64x512) off S1x64x512.size inb).stride a = 1}
    {k : PUnit → Prog (TpuEff nD τ sig (Elt F) Λ₀ .tc) α} :
    (owns (c : Thread nD τ) (slotM q) fullShare X : sProp 𝕄)
      ⊢ iprop((owns (c : Thread nD τ) (slotM q) fullShare (shapeCast S64x512 w shapeCasts_S1x64x512_S64x512)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store yM (Rect.unit (s := S4x64x512) off S1x64x512.size inb) w Finset.univ hx hm) k) Q) := by
  rw [← slotM_y q hq h inb]
  exact wp_store_squeeze c yM (Rect.unit (s := S4x64x512) off S1x64x512.size inb) (fun _ => rfl) squeezes_S1x64x512_S64x512 X w

theorem wp_store_f {α : Type} {Q : α → sProp 𝕄} (q : Fin 12) (hq : ¬ q.val < 4) {off : Fin 3 → ℕ} (h : off = ![ix q, 0, 0]) {inb : ∀ a, off a + S1x64x512.size a ≤ S8x64x512.size a}
    (X : Blk F) {w : S1x64x512.Idx → Elt F .bf16} {hx : (fM.access (Rect.unit (s := S8x64x512) off S1x64x512.size inb)).Stores Finset.univ}
    {hm : Finset.univ = Finset.univ ∨ ∀ a, (Rect.unit (s := S8x64x512) off S1x64x512.size inb).stride a = 1}
    {k : PUnit → Prog (TpuEff nD τ sig (Elt F) Λ₀ .tc) α} :
    (owns (c : Thread nD τ) (slotM q) fullShare X : sProp 𝕄)
      ⊢ iprop((owns (c : Thread nD τ) (slotM q) fullShare (shapeCast S64x512 w shapeCasts_S1x64x512_S64x512)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store fM (Rect.unit (s := S8x64x512) off S1x64x512.size inb) w Finset.univ hx hm) k) Q) := by
  rw [← slotM_f q hq h inb]
  exact wp_store_squeeze c fM (Rect.unit (s := S8x64x512) off S1x64x512.size inb) (fun _ => rfl) squeezes_S1x64x512_S64x512 X w

/-- The kernel's update of a row block of the result: a load of the rows, which nothing uses, then the store. -/
theorem wp_out {α : Type} {Q : α → sProp 𝕄} (s : Fin 8) {off : Fin 2 → ℕ} (h : off = ![64 * s.val, 0]) {inb : ∀ a, off a + S64x512.size a ≤ S512x512.size a}
    (X : Blk F) {w : Blk F} {hl : oM.view.LoadsAt (Rect.unit (s := S512x512) off S64x512.size inb).toLoadRect}
    {hx : (oM.access (Rect.unit (s := S512x512) off S64x512.size inb)).Stores Finset.univ}
    {hm : Finset.univ = Finset.univ ∨ ∀ a, (Rect.unit (s := S512x512) off S64x512.size inb).stride a = 1}
    {k : PUnit → Prog (TpuEff nD τ sig (Elt F) Λ₀ .tc) α} :
    (owns (c : Thread nD τ) (oSlot s) fullShare X : sProp 𝕄)
      ⊢ iprop((owns (c : Thread nD τ) (oSlot s) fullShare w -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S512x512) off S64x512.size inb).toLoadRect hl) fun _ =>
                .op (.store oM (Rect.unit (s := S512x512) off S64x512.size inb) w Finset.univ hx hm) k) Q) := by
  rw [← oSlot_eq s h inb]
  iintro H Hk
  iapply (wp_load_slice c oM (Rect.unit (s := S512x512) off S64x512.size inb) (fun _ => rfl) fullShare X) $$ H
  iintro H
  iapply (wp_store_slice c oM (Rect.unit (s := S512x512) off S64x512.size inb) (fun _ => rfl) X w) $$ H
  iintro H
  iapply Hk; iexact H

end Access

/-! ## A whole buffer is its slots -/

section Whole
variable (c : Dev nD)

/-- A buffer, split into squeezed slices of a disjoint covering family. -/
theorem owns_slots {n : ℕ} {s s' : Shape} {e : EltTy} (m : Memref sig .tc .vmem s e) (r : Fin n → Rect s) (hr : ∀ t a, (r t).stride a = 1)
    (hd : ∀ t t', t ≠ t' → Disjoint (r t).set (r t').set) (hcov : (Finset.univ : Finset (Fin n)).biUnion (fun t => (r t).set) = Finset.univ)
    (h : ∀ t, (r t).shape.Squeezes s') (X : s.Idx → Elt F e) :
    (owns (c : Thread nD τ) m fullShare X : sProp 𝕄)
      ⊢ bigSep Finset.univ fun t => iprop(∃ Y, owns (c : Thread nD τ) ((m.slice (r t) (hr t)).squeeze s' (h t)) fullShare Y) := by
  refine (owns_rects (c : Thread nD τ) m fullShare r hr hd hcov X).trans (bigSep_mono fun t _ => ?_)
  show (_ : sProp 𝕄) ⊢ _
  iintro H
  iexists _
  iapply (owns_squeeze (F := F) (c : Thread nD τ) (m.slice (r t) (hr t)) (h t) fullShare _) $$ H

theorem owns_slots_join {n : ℕ} {s s' : Shape} {e : EltTy} (m : Memref sig .tc .vmem s e) (r : Fin n → Rect s) (hr : ∀ t a, (r t).stride a = 1)
    (hd : ∀ t t', t ≠ t' → Disjoint (r t).set (r t').set) (hcov : (Finset.univ : Finset (Fin n)).biUnion (fun t => (r t).set) = Finset.univ)
    (h : ∀ t, (r t).shape.Squeezes s') :
    bigSep Finset.univ (fun t => iprop(∃ Y, owns (c : Thread nD τ) ((m.slice (r t) (hr t)).squeeze s' (h t)) fullShare Y))
      ⊢ (iprop(∃ X, owns (c : Thread nD τ) m fullShare X) : sProp 𝕄) := by
  refine (bigSep_mono (Ψ := fun t => iprop(∃ Y, owns (c : Thread nD τ) (m.slice (r t) (hr t)) fullShare Y)) fun t _ => ?_).trans ?_
  · show (_ : sProp 𝕄) ⊢ _
    iintro ⟨%Y, H⟩
    icases (owns_unsqueeze (F := F) (c : Thread nD τ) (m.slice (r t) (hr t)) (h t) fullShare Y) $$ H with ⟨%Z, %hZ, H⟩
    iexists Z; iexact H
  · refine (BI.bigSep_exists_pi Finset.univ fun t Y => owns (c : Thread nD τ) (m.slice (r t) (hr t)) fullShare Y).trans ?_
    iintro ⟨%Y, H⟩
    iexists Rect.glue r hcov Y
    iapply (owns_of_rects (c : Thread nD τ) m fullShare r hr hd hcov (Rect.glue r hcov Y))
    refine (bigSep_mono fun t _ => ?_)
    rw [show (fun j => Rect.glue r hcov Y ((r t).emb j)) = Y t from funext fun j => Rect.glue_emb r hcov hd Y t j]
    exact BI.Entails.refl _

abbrev yR (j : Fin 4) : Rect S4x64x512 := Rect.unit (s := S4x64x512) ![j.val, 0, 0] S1x64x512.size (by revert j; decide +kernel)
abbrev fR (s : Fin 8) : Rect S8x64x512 := Rect.unit (s := S8x64x512) ![s.val, 0, 0] S1x64x512.size (by revert s; decide +kernel)
abbrev oR (s : Fin 8) : Rect S512x512 := Rect.unit (s := S512x512) ![64 * s.val, 0] S64x512.size (ix_o s)

theorem yR_disj (t t' : Fin 4) (h : t ≠ t') : Disjoint (yR t).set (yR t').set := by
  refine Rect.unit_disjoint (0 : Fin 3) ?_
  have : t.val ≠ t'.val := fun e => h (Fin.ext e)
  show t.val + 1 ≤ t'.val ∨ t'.val + 1 ≤ t.val
  omega
theorem fR_disj (t t' : Fin 8) (h : t ≠ t') : Disjoint (fR t).set (fR t').set := by
  refine Rect.unit_disjoint (0 : Fin 3) ?_
  have : t.val ≠ t'.val := fun e => h (Fin.ext e)
  show t.val + 1 ≤ t'.val ∨ t'.val + 1 ≤ t.val
  omega
theorem oR_disj (t t' : Fin 8) (h : t ≠ t') : Disjoint (oR t).set (oR t').set := by
  refine Rect.unit_disjoint (0 : Fin 2) ?_
  have : t.val ≠ t'.val := fun e => h (Fin.ext e)
  show 64 * t.val + 64 ≤ 64 * t'.val ∨ 64 * t'.val + 64 ≤ 64 * t.val
  omega
theorem yR_cov : (Finset.univ : Finset (Fin 4)).biUnion (fun t => (yR t).set) = Finset.univ := by
  ext i
  simp only [Finset.mem_biUnion, Finset.mem_univ, true_and, iff_true]
  refine ⟨⟨(i (0 : Fin 3)).val, (i (0 : Fin 3)).isLt⟩, Rect.mem_set_unit.mpr ?_⟩
  have h1 : (i (1 : Fin 3)).val < 64 := (i (1 : Fin 3)).isLt
  have h2 : (i (2 : Fin 3)).val < 512 := (i (2 : Fin 3)).isLt
  intro a
  match a with
  | (0 : Fin 3) => exact ⟨Nat.le_refl _, Nat.lt_succ_self _⟩
  | (1 : Fin 3) => exact ⟨Nat.zero_le _, show (i (1 : Fin 3)).val < 0 + 64 by omega⟩
  | (2 : Fin 3) => exact ⟨Nat.zero_le _, show (i (2 : Fin 3)).val < 0 + 512 by omega⟩
theorem fR_cov : (Finset.univ : Finset (Fin 8)).biUnion (fun t => (fR t).set) = Finset.univ := by
  ext i
  simp only [Finset.mem_biUnion, Finset.mem_univ, true_and, iff_true]
  refine ⟨⟨(i (0 : Fin 3)).val, (i (0 : Fin 3)).isLt⟩, Rect.mem_set_unit.mpr ?_⟩
  have h1 : (i (1 : Fin 3)).val < 64 := (i (1 : Fin 3)).isLt
  have h2 : (i (2 : Fin 3)).val < 512 := (i (2 : Fin 3)).isLt
  intro a
  match a with
  | (0 : Fin 3) => exact ⟨Nat.le_refl _, Nat.lt_succ_self _⟩
  | (1 : Fin 3) => exact ⟨Nat.zero_le _, show (i (1 : Fin 3)).val < 0 + 64 by omega⟩
  | (2 : Fin 3) => exact ⟨Nat.zero_le _, show (i (2 : Fin 3)).val < 0 + 512 by omega⟩
theorem oR_cov : (Finset.univ : Finset (Fin 8)).biUnion (fun t => (oR t).set) = Finset.univ := by
  ext i
  simp only [Finset.mem_biUnion, Finset.mem_univ, true_and, iff_true]
  have h0 : (i (0 : Fin 2)).val < 512 := (i (0 : Fin 2)).isLt
  have h1 : (i (1 : Fin 2)).val < 512 := (i (1 : Fin 2)).isLt
  refine ⟨⟨(i (0 : Fin 2)).val / 64, by omega⟩, Rect.mem_set_unit.mpr ?_⟩
  intro a
  match a with
  | (0 : Fin 2) => exact ⟨show 64 * ((i (0 : Fin 2)).val / 64) ≤ (i (0 : Fin 2)).val by omega,
      show (i (0 : Fin 2)).val < 64 * ((i (0 : Fin 2)).val / 64) + 64 by omega⟩
  | (1 : Fin 2) => exact ⟨Nat.zero_le _, show (i (1 : Fin 2)).val < 0 + 512 by omega⟩

theorem ix_ySl (j : Fin 4) : ix (ySl j) = j.val := by revert j; decide
theorem ix_fSl (s : Fin 8) : ix (fSl s) = s.val := by revert s; decide
theorem ySl_lt (j : Fin 4) : (ySl j).val < 4 := j.isLt
theorem fSl_lt (s : Fin 8) : ¬ (fSl s).val < 4 := by revert s; decide

/-- The first gather buffer is its four slots, -/
theorem y_split (f : Buf (Elt F) ((c : Thread nD τ).loc cc0_scratch0)) :
    (((c : Thread nD τ).loc cc0_scratch0) ↦{fullShare} f : sProp 𝕄)
      ⊢ bigSep Finset.univ fun j : Fin 4 => iprop(∃ X, owns (c : Thread nD τ) (slotM (ySl j)) fullShare X) := by
  refine (Entails.of_eq (owns_whole (c : Thread nD τ) cc0_scratch0 fullShare f).symm).trans ?_
  refine (owns_slots c yM yR (fun _ _ => rfl) yR_disj yR_cov (fun _ => squeezes_S1x64x512_S64x512) f).trans (bigSep_mono fun j _ => ?_)
  rw [← slotM_y (ySl j) (ySl_lt j) (off := ![j.val, 0, 0]) (by rw [ix_ySl])]
  exact BI.Entails.refl _
/-- and back. -/
theorem y_join : bigSep Finset.univ (fun j : Fin 4 => iprop(∃ X, owns (c : Thread nD τ) (slotM (ySl j)) fullShare X))
    ⊢ (iprop(∃ f, ((c : Thread nD τ).loc cc0_scratch0) ↦{fullShare} f) : sProp 𝕄) := by
  refine (bigSep_mono fun j _ => ?_).trans ((owns_slots_join c yM yR (fun _ _ => rfl) yR_disj yR_cov (fun _ => squeezes_S1x64x512_S64x512)).trans ?_)
  · rw [← slotM_y (ySl j) (ySl_lt j) (off := ![j.val, 0, 0]) (by rw [ix_ySl])]
    exact BI.Entails.refl _
  · iintro ⟨%X, H⟩
    iexists X
    iapply (Entails.of_eq (owns_whole (c : Thread nD τ) cc0_scratch0 fullShare X)) $$ H
/-- The second gather buffer is its eight slots, -/
theorem f_split (f : Buf (Elt F) ((c : Thread nD τ).loc cc0_scratch1)) :
    (((c : Thread nD τ).loc cc0_scratch1) ↦{fullShare} f : sProp 𝕄)
      ⊢ bigSep Finset.univ fun s : Fin 8 => iprop(∃ X, owns (c : Thread nD τ) (slotM (fSl s)) fullShare X) := by
  refine (Entails.of_eq (owns_whole (c : Thread nD τ) cc0_scratch1 fullShare f).symm).trans ?_
  refine (owns_slots c fM fR (fun _ _ => rfl) fR_disj fR_cov (fun _ => squeezes_S1x64x512_S64x512) f).trans (bigSep_mono fun s _ => ?_)
  rw [← slotM_f (fSl s) (fSl_lt s) (off := ![s.val, 0, 0]) (by rw [ix_fSl])]
  exact BI.Entails.refl _
/-- and back. -/
theorem f_join : bigSep Finset.univ (fun s : Fin 8 => iprop(∃ X, owns (c : Thread nD τ) (slotM (fSl s)) fullShare X))
    ⊢ (iprop(∃ f, ((c : Thread nD τ).loc cc0_scratch1) ↦{fullShare} f) : sProp 𝕄) := by
  refine (bigSep_mono fun s _ => ?_).trans ((owns_slots_join c fM fR (fun _ _ => rfl) fR_disj fR_cov (fun _ => squeezes_S1x64x512_S64x512)).trans ?_)
  · rw [← slotM_f (fSl s) (fSl_lt s) (off := ![s.val, 0, 0]) (by rw [ix_fSl])]
    exact BI.Entails.refl _
  · iintro ⟨%X, H⟩
    iexists X
    iapply (Entails.of_eq (owns_whole (c : Thread nD τ) cc0_scratch1 fullShare X)) $$ H

/-- The result assembled from its eight row blocks. -/
def rowsOf (X : Fin 8 → Blk F) : S512x512.Idx → Elt F .bf16 := Rect.glue oR oR_cov X
theorem rowsOf_emb (X : Fin 8 → Blk F) (s : Fin 8) (j : S64x512.Idx) : rowsOf X ((oR s).emb j) = X s j := Rect.glue_emb oR oR_cov oR_disj X s j

/-- The result's buffer is its row blocks, -/
theorem o_split (f : Buf (Elt F) ((c : Thread nD τ).loc cc0_stg2_0)) :
    (((c : Thread nD τ).loc cc0_stg2_0) ↦{fullShare} f : sProp 𝕄)
      ⊢ bigSep Finset.univ fun s : Fin 8 => iprop(∃ X, owns (c : Thread nD τ) (oSlot s) fullShare X) := by
  refine (Entails.of_eq (owns_whole (c : Thread nD τ) cc0_stg2_0 fullShare f).symm).trans ?_
  refine (owns_rects (c : Thread nD τ) oM fullShare oR (fun _ _ => rfl) oR_disj oR_cov f).trans (bigSep_mono fun s _ => ?_)
  show (owns (c : Thread nD τ) (oSlot s) fullShare _ : sProp 𝕄) ⊢ _
  iintro H; iexists _; iexact H
/-- and back, at the contents the blocks have. -/
theorem o_join (X : Fin 8 → Blk F) : bigSep Finset.univ (fun s : Fin 8 => owns (c : Thread nD τ) (oSlot s) fullShare (X s))
    ⊢ (((c : Thread nD τ).loc cc0_stg2_0) ↦{fullShare} rowsOf X : sProp 𝕄) := by
  refine BI.Entails.trans ?_ (Entails.of_eq (owns_whole (c : Thread nD τ) cc0_stg2_0 fullShare (rowsOf X)))
  refine (bigSep_mono fun s _ => ?_).trans (owns_of_rects (c : Thread nD τ) oM fullShare oR (fun _ _ => rfl) oR_disj oR_cov (rowsOf X))
  rw [show (fun j => rowsOf X ((oR s).emb j)) = X s from funext fun j => rowsOf_emb X s j]
  exact BI.Entails.refl _

end Whole

end Cert.KProof

end
-- ==== Proof.Sched.lean ====
/-
The kernel's synchronisation as a schedule of rounds, and what every slot holds when it has landed.

Each device's BARRIER cell has one round of ten duties of one unit, duty `p` paid by the device's peer `p`, which hands
over the slot of its buffers that the device will write. Each device's SEND cell of peer `p` has one duty of a block's
credit, which returns the share of the device's own slot that the copy to peer `p` was lent. Each device's RECEIVE cell
of slot `q` has one duty of a block's credit, which hands over slot `q` at the block of the device it comes from.
A device owes, at launch, its ten signals and the credit of its ten copies; the barrier is below the receive cells of the
first buffer and these below the receive cells of the second.
-/
module

public import proofs.«01_k».proof.Proof.Slots

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- The ids and the table's block as device `d`'s kernel reads them. -/
def xids (d : Dev nD) : (cc0_stg0_0 : Ref sig .tc).ty.Contents (Elt F) :=
  (win0_0.blk (0 : Fin 1)).view.read (Elt F) (m ((d : Thread nD τ).loc main_arg0))
def xtab (d : Dev nD) : (cc0_stg1_0 : Ref sig .tc).ty.Contents (Elt F) :=
  (win0_1.blk (0 : Fin 1)).view.read (Elt F) (m ((d : Thread nD τ).loc main_arg1))

/-- The ids of the rows of device `d`'s plane position. -/
abbrev rowIds (d : Dev nD) : S64x1.Idx → Elt F .i32 :=
  (Memref.whole cc0_stg0_0 : Memref sig .tc .vmem S512x1 .i32).view.readAt (Elt F) (Rect.unit (s := S512x1) (k0_off1 d) S64x1.size (k0_off1_inb d)).toLoadRect (xids m d)

/-- Device `d`'s partial product: the rows of its table block its rows' ids name, zero where an id names none. -/
abbrev part (d : Dev nD) : Blk F :=
  shapeCast S64x512 (k0_pay1 (Scalar.remsi (Scalar.divsi (Dev.word d) 4#32) 4#32) (rowIds m d) (xtab m d)) shapeCasts_S1x64x512_S64x512
/-- The sum of the partial products along `y`, in the kernel's order. -/
def full (d : Dev nD) : Blk F :=
  addf (addf (addf (part m (yAt d 0)) (part m (yAt d 1))) (part m (yAt d 2))) (part m (yAt d 3))
/-- What slot `q` of device `d` holds when it has landed. -/
def val (q : Fin 12) (d : Dev nD) : Blk F := if q.val < 4 then part m (orig q d) else full m (orig q d)
/-- The kernel's result on device `d`. -/
def outAt (d : Dev nD) : (cc0_stg2_0 : Ref sig .tc).ty.Contents (Elt F) := rowsOf fun s => full m (sAt d s)

omit [FloatOps F] in
theorem hz2 : (![0, 0] : Fin 2 → ℕ) = fun _ => 0 := funext fun a => by fin_cases a <;> rfl

theorem val_peer (p : Fin 10) (c : Dev nD) : val m (mine p c) (peer p c) = val m (mine p c) c := by
  unfold val; rw [orig_mine_peer, orig_mine]
theorem val_mine_y (p : Fin 10) (hp : p.val < 3) (c : Dev nD) : val m (mine p c) c = part m c := by
  unfold val; rw [if_pos ((mine_lt p c).mpr hp), orig_mine]
theorem val_mine_f (p : Fin 10) (hp : ¬ p.val < 3) (c : Dev nD) : val m (mine p c) c = full m c := by
  unfold val; rw [if_neg (fun h => hp ((mine_lt p c).mp h)), orig_mine]
theorem val_ySl (j : Fin 4) (c : Dev nD) : val m (ySl j) c = part m (yAt c j) := by
  unfold val orig; rw [if_pos (ySl_lt j), dif_pos (ySl_lt j)]; rfl
theorem val_fSl (s : Fin 8) (c : Dev nD) : val m (fSl s) c = full m (sAt c s) := by
  unfold val orig; rw [if_neg (fSl_lt s), dif_neg (fSl_lt s)]; rfl

/-! ## Shares: the part of a slot lent to its copies, one after the other, and what is left -/

/-- What is left of a whole share after `n` loans, -/
def keep : ℕ → PosShare TreeShare
  | 0 => fullShare
  | n + 1 => (keep n).right
/-- and the loan `n`. -/
def lendN (n : ℕ) : PosShare TreeShare := (keep n).left
theorem keep_op (n : ℕ) : keep n ∈ lendN n ·? keep (n + 1) := PosShare.mem_left_op_right (keep n)
/-- The loan of the copy to peer `p`. -/
def lend (p : Fin 10) : PosShare TreeShare := lendN (if p.val < 3 then p.val else p.val - 3)

/-! ## The cells -/

abbrev barCell (c : Dev nD) : GSem nD τ sig := ((c : Thread nD τ), .reg barS)
abbrev sndCell (p : Fin 10) (c : Dev nD) : GSem nD τ sig := ((c : Thread nD τ), .dma (ssem p))
abbrev rcvCell (q : Fin 12) (c : Dev nD) : GSem nD τ sig := ((c : Thread nD τ), .dma (rsem q))

/-- The peer whose copy's send semaphore this is; the slot whose receive semaphore this is. -/
def decS (s : DmaSem sig) : Option (Fin 10) := (List.finRange 10).find? fun p => ssem p = s
def decR (s : DmaSem sig) : Option (Fin 12) := (List.finRange 12).find? fun q => rsem q = s
theorem decS_ssem (p : Fin 10) : decS (ssem p) = some p := by revert p; decide +kernel
theorem decR_rsem (q : Fin 12) : decR (rsem q) = some q := by revert q; decide +kernel
theorem decR_ssem (p : Fin 10) : decR (ssem p) = none := by revert p; decide +kernel

/-- The kernel's own semaphores, as the launch lists them; -/
def osem (i : Fin 22) : SemLoc sig := .dma ⟨3 + i.val, by have := i.isLt; show _ < 25; omega⟩
/-- all its cells, as this proof indexes them: its own, then the barrier. -/
def csem (k : Fin 23) : SemLoc sig := if h : k.val < 22 then osem ⟨k.val, h⟩ else .reg barS
abbrev kcell (ck : Dev nD × Fin 23) : GSem nD τ sig := ((ck.1 : Thread nD τ), csem ck.2)
def kB : Fin 23 := 22
set_option backward.proofsInPublic true in
def kS (p : Fin 10) : Fin 23 := ⟨(ssem p).val - 3, by revert p; decide⟩
set_option backward.proofsInPublic true in
def kR (q : Fin 12) : Fin 23 := ⟨(rsem q).val - 3, by revert q; decide⟩
theorem csem_kB : csem kB = .reg barS := by decide +kernel
theorem csem_kS (p : Fin 10) : csem (kS p) = .dma (ssem p) := by revert p; decide +kernel
theorem csem_kR (q : Fin 12) : csem (kR q) = .dma (rsem q) := by revert q; decide +kernel
theorem csem_inj : Function.Injective csem := by decide +kernel

/-! ## The schedule -/

/-- What peer `p` of device `c` hands it with its signal: the slot of its buffers that `c` will write. -/
def barPay (c : Dev nD) (p : Fin 10) : sProp 𝕄 := iprop(∃ X, owns (peer p c : Thread nD τ) (slotM (mine p c)) fullShare X)
def rcvPay (c : Dev nD) (q : Fin 12) : sProp 𝕄 := owns (c : Thread nD τ) (slotM q) fullShare (val m q c)
def sndPay (c : Dev nD) (p : Fin 10) : sProp 𝕄 := owns (c : Thread nD τ) (slotM (mine p c)) (lend p) (val m (mine p c) c)

instance barPay_storable (c : Dev nD) (p : Fin 10) : BI.Storable (upEmb : UEmb _ 𝕄) (barPay (F := F) c p) := by unfold barPay; infer_instance
instance rcvPay_storable (c : Dev nD) (q : Fin 12) : BI.Storable (upEmb : UEmb _ 𝕄) (rcvPay (F := F) m c q) := by unfold rcvPay; infer_instance
instance sndPay_storable (c : Dev nD) (p : Fin 10) : BI.Storable (upEmb : UEmb _ 𝕄) (sndPay (F := F) m c p) := by unfold sndPay; infer_instance

def dutiesOf (c : Dev nD) : SemLoc sig → Finset (Fin 10)
  | .reg s => if s = barS then Finset.univ else ∅
  | .dma s => if (∃ p, s = ssem p) ∨ (∃ p, s = rsem (slot p c)) then {0} else ∅
def payOf (c : Dev nD) (d : Fin 10) : SemLoc sig → sProp 𝕄
  | .reg _ => barPay c d
  | .dma s => match decR s with
    | some q => rcvPay m c q
    | none => match decS s with
      | some p => sndPay m c p
      | none => iprop(emp)

instance payOf_storable (c : Dev nD) (d : Fin 10) (s : SemLoc sig) : BI.Storable (upEmb : UEmb _ 𝕄) (payOf (F := F) m c d s) := by
  unfold payOf
  (repeat' split) <;> infer_instance

/-- One round, round 0. -/
def kRd : Rounds.Schedule (GSem nD τ sig) (Fin 10) 𝕄 where
  duties g r := if r = 0 ∧ g.1.2 = .tc then dutiesOf g.1.1 g.2 else ∅
  unitless _ := False
  amount g _ _ := match g.2 with
    | .reg _ => 1
    | .dma _ => N
  payload g _ d := payOf m g.1.1 d g.2
  amount_pos g _ _ _ := by
    rcases g with ⟨t, _ | _⟩
    · exact Nat.one_pos
    · exact N_pos

instance kRd_payload_storable (g : GSem nD τ sig) (r : ℕ) (d : Fin 10) :
    BI.Storable (upEmb : UEmb _ 𝕄) ((kRd (F := F) m).payload g r d) := payOf_storable m g.1.1 d g.2

section Sched
variable (c : Dev nD)

theorem duties_bar : (kRd (F := F) m).duties (barCell c) 0 = Finset.univ := rfl
theorem duties_snd (p : Fin 10) : (kRd (F := F) m).duties (sndCell p c) 0 = {0} := by
  show (if (0 = 0 ∧ (Proc.tc : Proc τ) = .tc) then dutiesOf c (.dma (ssem p)) else ∅) = _
  rw [if_pos ⟨rfl, rfl⟩]; exact if_pos (.inl ⟨p, rfl⟩)
theorem duties_rcv (p : Fin 10) : (kRd (F := F) m).duties (rcvCell (slot p c) c) 0 = {0} := by
  show (if (0 = 0 ∧ (Proc.tc : Proc τ) = .tc) then dutiesOf c (.dma (rsem (slot p c))) else ∅) = _
  rw [if_pos ⟨rfl, rfl⟩]; exact if_pos (.inr ⟨p, rfl⟩)
theorem duties_later (g : GSem nD τ sig) : ∀ r, 1 ≤ r → (kRd (F := F) m).duties g r = ∅ :=
  fun r hr => if_neg fun h => by omega
/-- The receive cell of a device's own slot is never used. -/
theorem duties_own (p : Fin 10) (r : ℕ) : (kRd (F := F) m).duties (rcvCell (mine p c) c) r = ∅ := by
  show (if _ then dutiesOf c (.dma (rsem (mine p c))) else ∅) = _
  have h : ¬ ((∃ p', rsem (mine p c) = ssem p') ∨ (∃ p', rsem (mine p c) = rsem (slot p' c))) := by
    rintro (⟨p', h⟩ | ⟨p', h⟩)
    · exact rsem_ne_ssem _ _ h
    · exact absurd (rsem_inj h) (by clear h; revert c p p'; decide +kernel)
  split
  · exact if_neg h
  · rfl

theorem amount_bar (d : Fin 10) : (kRd (F := F) m).amount (barCell c) 0 d = 1 := rfl
theorem amount_snd (p d : Fin 10) : (kRd (F := F) m).amount (sndCell p c) 0 d = N := rfl
theorem amount_rcv (q : Fin 12) (d : Fin 10) : (kRd (F := F) m).amount (rcvCell q c) 0 d = N := rfl

theorem expect_bar : (kRd (F := F) m).expect (barCell c) 0 = 10 := by
  unfold Schedule.expect Schedule.amountOf
  rw [duties_bar, Finset.sum_congr rfl fun d _ => amount_bar m c d, Finset.sum_const, Finset.card_univ, Fintype.card_fin, smul_eq_mul]
theorem expect_snd (p : Fin 10) : (kRd (F := F) m).expect (sndCell p c) 0 = N := by
  unfold Schedule.expect Schedule.amountOf; rw [duties_snd, Finset.sum_singleton, amount_snd]
theorem expect_rcv (p : Fin 10) : (kRd (F := F) m).expect (rcvCell (slot p c) c) 0 = N := by
  unfold Schedule.expect Schedule.amountOf; rw [duties_rcv, Finset.sum_singleton, amount_rcv]

theorem payload_bar (d : Fin 10) : (kRd (F := F) m).payload (barCell c) 0 d = barPay c d := rfl
theorem payload_snd (p d : Fin 10) : (kRd (F := F) m).payload (sndCell p c) 0 d = sndPay m c p := by
  show payOf m c d (.dma (ssem p)) = _
  unfold payOf; simp only [decR_ssem, decS_ssem]
theorem payload_rcv (q : Fin 12) (d : Fin 10) : (kRd (F := F) m).payload (rcvCell q c) 0 d = rcvPay m c q := by
  show payOf m c d (.dma (rsem q)) = _
  unfold payOf; simp only [decR_rsem]

theorem rest_bar : bigSep ((kRd (F := F) m).duties (barCell c) 0 \ ∅) (fun d => (kRd (F := F) m).payload (barCell c) 0 d)
    = bigSep Finset.univ fun p => barPay c p := by
  rw [Finset.sdiff_empty, duties_bar]; rfl
theorem rest_snd (p : Fin 10) : bigSep ((kRd (F := F) m).duties (sndCell p c) 0 \ ∅) (fun d => (kRd (F := F) m).payload (sndCell p c) 0 d) = sndPay m c p := by
  rw [Finset.sdiff_empty, duties_snd, bigSep_singleton, payload_snd]
theorem rest_rcv (p : Fin 10) : bigSep ((kRd (F := F) m).duties (rcvCell (slot p c) c) 0 \ ∅) (fun d => (kRd (F := F) m).payload (rcvCell (slot p c) c) 0 d)
    = rcvPay m c (slot p c) := by
  rw [Finset.sdiff_empty, duties_rcv, bigSep_singleton, payload_rcv]

end Sched

/-! ## What each core owes at launch; the levels -/

/-- The credit of the copies to the peers of a list, first the last summand; -/
def owR (c : Dev nD) : List (Fin 10) → CellTallies nD τ sig Unit
  | [] => 0
  | p :: l => owR c l + tallyAt (rcvCell (mine p c) (peer p c)) () N
/-- beside it, the signals to the peers of a list. -/
def owS (c : Dev nD) : List (Fin 10) → CellTallies nD τ sig Unit
  | [] => owR c (List.finRange 10)
  | p :: l => owS c l + tallyAt (barCell (peer p c)) () 1
def O₀ (c : Dev nD) : CellTallies nD τ sig Unit := owS c (List.finRange 10)

def L (g : GSem nD τ sig) : Finset Unit := if g.1.2 = .tc then {()} else ∅
def lvOf : SemLoc sig → ℕ
  | .reg _ => 1
  | .dma s => match decR s with
    | some q => if q.val < 4 then 2 else 3
    | none => 0
/-- Barrier cells at 1, receive cells of the first buffer at 2 and of the second at 3, everything else at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_rcv (q : Fin 12) (c : Dev nD) : lv (rcvCell q c) () = if q.val < 4 then 2 else 3 := by
  show lvOf (.dma (rsem q)) = _
  unfold lvOf; simp only [decR_rsem]
theorem lv_bar (c : Dev nD) : lv (barCell c) () = 1 := rfl

theorem owR_pos {c : Dev nD} {l : List (Fin 10)} {g : GSem nD τ sig} {u : Unit} (h : 0 < owR c l g u) :
    ∃ p ∈ l, g = rcvCell (mine p c) (peer p c) := by
  induction l with
  | nil => exact absurd h (Nat.lt_irrefl 0)
  | cons p l ih =>
    unfold owR at h
    rw [Pi.add_apply, Finsupp.add_apply, tallyAt_apply] at h
    by_cases hg : g = rcvCell (mine p c) (peer p c) ∧ u = ()
    · exact ⟨p, List.mem_cons_self, hg.1⟩
    · rw [if_neg hg, Nat.add_zero] at h
      obtain ⟨p', hp', e⟩ := ih h
      exact ⟨p', List.mem_cons_of_mem _ hp', e⟩
theorem owS_pos {c : Dev nD} {l : List (Fin 10)} {g : GSem nD τ sig} {u : Unit} (h : 0 < owS c l g u) :
    (∃ p, g = barCell (peer p c)) ∨ ∃ p, g = rcvCell (mine p c) (peer p c) := by
  induction l with
  | nil => obtain ⟨p, -, e⟩ := owR_pos h; exact .inr ⟨p, e⟩
  | cons p l ih =>
    unfold owS at h
    rw [Pi.add_apply, Finsupp.add_apply, tallyAt_apply] at h
    by_cases hg : g = barCell (peer p c) ∧ u = ()
    · exact .inl ⟨p, hg.1⟩
    · rw [if_neg hg, Nat.add_zero] at h; exact ih h

/-- A wait on a cell below everything owed is allowed. -/
theorem mayWait_of (c : Dev nD) (sm : SemLoc sig) (O : CellTallies nD τ sig Unit)
    (h : ∀ g u, 0 < O g u → g.1.2 = .tc ∧ lvOf sm < lv g u) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

/-- The staging waits, before the body and after it. -/
theorem mayWait_stage (c : Dev nD) (q : DmaSem sig) (hq : decR q = none) (O : CellTallies nD τ sig Unit) (hO : O = O₀ c ∨ O = 0) :
    (levAts L lv : sProp 𝕄) ⊢ MayWait (c : Thread nD τ) (.dma q) () O := by
  have hl : lvOf (.dma q) = 0 := by unfold lvOf; simp only [hq]
  rcases hO with rfl | rfl
  · refine mayWait_of c _ _ fun g u hg => ?_
    rw [hl]
    rcases owS_pos hg with ⟨p, rfl⟩ | ⟨p, rfl⟩
    · exact ⟨rfl, Nat.one_pos⟩
    · exact ⟨rfl, by rw [lv_rcv]; split <;> decide⟩
  · rw [MayWait_zero]; iintro -; iempintro
/-- At its barrier wait a device owes its copies' credit only. -/
theorem mayWait_bar (c : Dev nD) : (levAts L lv : sProp 𝕄) ⊢ MayWait (c : Thread nD τ) (.reg barS) () (owR c (List.finRange 10)) := by
  refine mayWait_of c _ _ fun g u hg => ?_
  obtain ⟨p, -, rfl⟩ := owR_pos hg
  exact ⟨rfl, by rw [lv_rcv]; show 1 < _; split <;> decide⟩
/-- At its waits on the first buffer's receive cells it owes the credit of the copies from the second. -/
theorem mayWait_rcv (c : Dev nD) (p : Fin 10) (hp : p.val < 3) (l : List (Fin 10)) (hl : ∀ p ∈ l, ¬ p.val < 3) :
    (levAts L lv : sProp 𝕄) ⊢ MayWait (c : Thread nD τ) (.dma (rsem (slot p c))) () (owR c l) := by
  refine mayWait_of c _ _ fun g u hg => ?_
  obtain ⟨p', hp', rfl⟩ := owR_pos hg
  refine ⟨rfl, ?_⟩
  rw [lv_rcv, if_neg (fun h => hl p' hp' ((mine_lt p' c).mp h))]
  have := lv_rcv (slot p c) c
  rw [if_pos ((slot_lt p c).mpr hp)] at this
  exact lt_of_eq_of_lt this (by decide)

/-! ## The records every device shares -/

/-- Every cell's invariant, under the names `K` the launch allocated them at, and that every cell has reached round 0. -/
def records (K : Dev nD × Fin 23 → ℕ) : sProp 𝕄 :=
  iprop((bigSep Finset.univ fun ck : Dev nD × Fin 23 => cellInv ER (kRd m) (K ck) (kcell ck))
    ∗ bigSep Finset.univ fun ck : Dev nD × Fin 23 => reached ER (kcell ck) 0)
instance records_persistent (K : Dev nD × Fin 23 → ℕ) : BI.Persistent (records m K) := by unfold records; infer_instance

theorem inv_at (K : Dev nD × Fin 23 → ℕ) (ck : Dev nD × Fin 23) :
    (bigSep Finset.univ fun ck : Dev nD × Fin 23 => (cellInv ER (kRd m) (K ck) (kcell ck) : sProp 𝕄)) ⊢ cellInv ER (kRd m) (K ck) (kcell ck) :=
  bigSep_elim (Finset.mem_univ ck)
theorem reached_at (ck : Dev nD × Fin 23) :
    (bigSep Finset.univ fun ck : Dev nD × Fin 23 => (reached ER (kcell ck) 0 : sProp 𝕄)) ⊢ reached ER (kcell ck) 0 :=
  bigSep_elim (Finset.mem_univ ck)

theorem rec_at (K : Dev nD × Fin 23 → ℕ) (c : Dev nD) (k : Fin 23) (sm : SemLoc sig) (h : csem k = sm) :
    records m K ⊢ iprop(cellInv ER (kRd m) (K (c, k)) ((c : Thread nD τ), sm) ∗ reached ER ((c : Thread nD τ), sm) 0) := by
  subst h
  unfold records
  iintro ⟨#HI, #HR⟩
  isplitl
  · iapply (inv_at m K (c, k)); iexact HI
  · iapply (reached_at (F := F) (c, k)); iexact HR
theorem rec_bar (K : Dev nD × Fin 23 → ℕ) (c : Dev nD) :
    records m K ⊢ iprop(cellInv ER (kRd m) (K (c, kB)) (barCell c) ∗ reached ER (barCell c) 0) := rec_at m K c kB _ csem_kB
theorem rec_snd (K : Dev nD × Fin 23 → ℕ) (p : Fin 10) (c : Dev nD) :
    records m K ⊢ iprop(cellInv ER (kRd m) (K (c, kS p)) (sndCell p c) ∗ reached ER (sndCell p c) 0) := rec_at m K c (kS p) _ (csem_kS p)
theorem rec_rcv (K : Dev nD × Fin 23 → ℕ) (q : Fin 12) (c : Dev nD) :
    records m K ⊢ iprop(cellInv ER (kRd m) (K (c, kR q)) (rcvCell q c) ∗ reached ER (rcvCell q c) 0) := rec_at m K c (kR q) _ (csem_kR q)

end Cert.KProof

end
-- ==== Proof.Steps.lean ====
/-
The kernel's steps, each for any peer: what a signal, the barrier wait, a copy, a wait for a copy and an update of the
buffers do to the state a device's thread holds between them.
-/
module

public import proofs.«01_k».proof.Proof.Sched
public import Idealize.ShloMosaic.Lib.Pipeline.BigSepL

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 23 → ℕ) (c : Dev nD)

/-! ## The state -/

/-- The records every device shares, and what device `c` owes. -/
def ow (O : CellTallies nD τ sig Unit) : sProp 𝕄 :=
  iprop((records m K ∗ levAts L lv) ∗ ∃ W, owes (c : Thread nD τ) O W)
/-- A slot of device `d`'s buffers, at whatever it holds. -/
abbrev some_ (d : Dev nD) (q : Fin 12) : sProp 𝕄 := iprop(∃ X, owns (d : Thread nD τ) (slotM q) fullShare X)
/-- What the signal to peer `p` takes. -/
def sigOf (p : Fin 10) : sProp 𝕄 := iprop(dutyTok ER (barCell (peer p c)) 0 (inv p) ∗ some_ (F := F) c (slot p c))
/-- What the copy to peer `p` takes beside the share it lends. -/
def cpyOf (p : Fin 10) : sProp 𝕄 :=
  iprop((dutyTok ER (rcvCell (mine p c) (peer p c)) 0 0 ∗ dutyTok ER (sndCell p c) 0 0) ∗ some_ (F := F) (peer p c) (mine p c))
/-- What the wait for peer `p`'s copy takes, -/
def rcvOf (p : Fin 10) : sProp 𝕄 :=
  iprop(cred (tallyAt (rcvCell (slot p c) c) () N) ∗ atPos ER (rcvCell (slot p c) c) 0 ∅ 0)
/-- and the wait for the copy to peer `p`. -/
def sntOf (p : Fin 10) : sProp 𝕄 :=
  iprop(cred (tallyAt (sndCell p c) () N) ∗ atPos ER (sndCell p c) 0 ∅ 0)

/-! ## The steps -/

section Steps
variable {α : Type} {k : PUnit → Prog (TpuEff nD τ sig (Elt F) Λ₀ .tc) α}

/-- A cell whose round is over closes. -/
theorem close_cell (g : GSem nD τ sig) (κ R : ℕ) (h : ∀ r, R ≤ r → (kRd (F := F) m).duties g r = ∅) :
    iprop(cellInv ER (kRd m) κ g ∗ atPos ER g R ∅ 0) ⊢ (iprop(|={Set.univ}=> semVal g 0) : sProp 𝕄) :=
  Rounds.cell_close ER (kRd m) (Set.mem_univ κ) (fun h => h) (R := R) h

/-- The signal to peer `p` hands it the slot its copy will fill. -/
theorem step_sig {Q : α → sProp 𝕄} (p : Fin 10) (l : List (Fin 10)) (n : Dev nD) (hn : n = peer p c) :
    iprop(ow m K c (owS c (p :: l)) ∗ bigSepL (p :: l) (sigOf c))
      ⊢ iprop(((ow m K c (owS c l) ∗ bigSepL l (sigOf c)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toInt) k) Q) := by
  subst hn
  rw [bigSepL_cons']
  unfold ow
  iintro ⟨⟨⟨#HR, #HL⟩, %W, HO⟩, Hp, Hl⟩ Hk
  icases (show sigOf (F := F) c p ⊢ iprop(dutyTok ER (barCell (peer p c)) 0 (inv p) ∗ some_ c (slot p c)) from BI.Entails.refl _) $$ Hp with ⟨Ht, Hs⟩
  icases (rec_bar m K (peer p c)) $$ HR with ⟨#HI, #Hr⟩
  iapply (Rounds.wp_signal 𝒱₀ ER (kRd m) (c : Thread nD τ) none (dst := (peer p c : Thread nD τ)) (κ := K (peer p c, kB))
      (d := inv p) (by rw [duties_bar]; exact Finset.mem_univ _) ((amount_bar m (peer p c) (inv p)).trans (by decide)) () (owS c l) rfl)
    $$ [HO Ht Hs]
  · isplitr; · iexact HI
    isplitl [HO]; · iexact HO
    isplitl [Ht]; · iexact Ht
    isplitl [Hs]
    · rw [payload_bar]; unfold barPay; rw [peer_inv, show mine (inv p) (peer p c) = slot p c from mine_inv p _]; iexact Hs
    · iexact Hr
  iintro HO
  iapply Hk
  isplitr [Hl]
  · isplitr
    · isplitr; · iexact HR
      iexact HL
    · iexists W; iexact HO
  · iexact Hl

/-- The barrier wait: every peer's slot is the device's to write, and the barrier cell is closed. -/
theorem step_bar {Q : α → sProp 𝕄} :
    iprop(ow m K c (owR c (List.finRange 10)) ∗ cred (tallyAt (barCell c) () 10) ∗ atPos ER (barCell c) 0 ∅ 0)
      ⊢ iprop(((ow m K c (owR c (List.finRange 10)) ∗ semVal (barCell c) 0 ∗ bigSepL (List.finRange 10) (barPay (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (10#32 : BitVec 32).toInt) k) Q) := by
  unfold ow
  iintro ⟨⟨⟨#HR, #HL⟩, %W, HO⟩, Hc, Ha⟩ Hk
  icases (rec_bar m K c) $$ HR with ⟨#HI, -⟩
  iapply (Rounds.wp_wait_rest_token 𝒱₀ ER (kRd m) (c : Thread nD τ) none (κ := K (c, kB))
      (wpE_semWait_eq 𝒱₀ (c : Thread nD τ) none Set.univ) (Set.mem_univ _) () (O := owR c (List.finRange 10)) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact HL
    iexact Ha
  iintro ⟨HO, Ha, -, Hpay⟩
  ihave Hp := (Entails.of_eq ((rest_bar m c).trans (bigSep_univ_eq_bigSepL (List.finRange 10) (by decide) (List.nodup_finRange 10) _))) $$ Hpay
  imod (close_cell m (barCell c) (K (c, kB)) (0 + 1) (duties_later m _)) $$ [Ha] with Hz
  · isplitr; · iexact HI
    iexact Ha
  iapply Hk
  isplitl [HO]
  · isplitr
    · isplitr; · iexact HR
      iexact HL
    · iexists _; iexact HO
  isplitl [Hz]; · iexact Hz
  iexact Hp

/-- The copy to peer `p` of the device's own slot `q`, lending a part of what is left of its share. -/
theorem step_cpy {Q : α → sProp 𝕄} (p : Fin 10) (l : List (Fin 10)) (i : ℕ) (q : Fin 12) (hq : mine p c = q) (hi : lend p = lendN i)
    (n : Dev nD) (hn : n = peer p c) {src dst : Memref sig .tc .vmem S64x512 .bf16} (hs : src = slotM q) (hd : dst = slotM q)
    {sS sR : DmaSem sig} (h₁ : sS = ssem p) (h₂ : sR = rsem q)
    {hsc : (dst : Memref sig (Dev.tc n : Thread nD τ).2.kind .vmem S64x512 .bf16).view.ref.isScScratch = false}
    {hsrc : src.view.WordExact} {hdst : dst.view.WordExact}
    {hsem : DmaTarget.Typed .vmem (.dma sR) (.remote (Dev.tc n : Thread nD τ) dst (.dma sS) hsc)} :
    iprop(ow m K c (owR c (p :: l)) ∗ bigSepL (p :: l) (cpyOf (F := F) c) ∗ owns (c : Thread nD τ) (slotM q) (keep i) (val m q c))
      ⊢ iprop(((ow m K c (owR c l) ∗ bigSepL l (cpyOf (F := F) c) ∗ owns (c : Thread nD τ) (slotM q) (keep (i + 1)) (val m q c)) ∗ cred (tallyAt (sndCell p c) () N)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hs hd h₁ h₂ hq
  rw [bigSepL_cons']
  iintro ⟨How, ⟨Hp, Hl⟩, Hown⟩ Hk
  icases (owns_split (F := F) (c : Thread nD τ) (slotM (mine p c)) (keep_op i) (val m (mine p c) c)) $$ Hown with ⟨Hlend, Hkeep⟩
  icases (show cpyOf (F := F) c p ⊢ iprop((dutyTok ER (rcvCell (mine p c) (peer p c)) 0 0 ∗ dutyTok ER (sndCell p c) 0 0) ∗ some_ (peer p c) (mine p c)) from BI.Entails.refl _)
    $$ Hp with ⟨⟨Htr, Hts⟩, ⟨%X, Hd⟩⟩
  icases (show ow m K c (owR c (p :: l)) ⊢ iprop((records m K ∗ levAts L lv) ∗ ∃ W, owes (c : Thread nD τ) (owR c (p :: l)) W) from BI.Entails.refl _)
    $$ How with ⟨⟨#HR, #HL⟩, %W, HO⟩
  icases (rec_snd m K p c) $$ HR with ⟨#HIs, #Hrs⟩
  icases (rec_rcv m K (mine p c) (peer p c)) $$ HR with ⟨#HIr, #Hrr⟩
  icases (show owns (c : Thread nD τ) (slotM (mine p c)) (lendN i) (val m (mine p c) c) ⊢ (iprop(∃ f, ⌜(slotM (mine p c)).view.read (Elt F) f = val m (mine p c) c⌝
      ∗ ((slotM (mine p c)).view.loc (c : Thread nD τ) ↦[(slotM (mine p c)).view.set]{lendN i} f)) : sProp 𝕄) from BI.Entails.refl _) $$ Hlend with ⟨%fs, %hfs, Hlend⟩
  icases (show owns (peer p c : Thread nD τ) (slotM (mine p c)) fullShare X ⊢ (iprop(∃ f, ⌜(slotM (mine p c)).view.read (Elt F) f = X⌝
      ∗ ((slotM (mine p c)).view.loc (peer p c : Thread nD τ) ↦[(slotM (mine p c)).view.set]{fullShare} f)) : sProp 𝕄) from BI.Entails.refl _) $$ Hd with ⟨%fd, -, Hd⟩
  have hduty : (0 : Fin 10) ∈ (kRd (F := F) m).duties (rcvCell (mine p c) (peer p c)) 0 := by
    have := duties_rcv (F := F) m (peer p c) (inv p)
    rw [slot_inv_peer] at this
    rw [this]; exact Finset.mem_singleton_self _
  iapply (Rounds.wp_send_pointsTo 𝒱₀ ER (kRd m) (c : Thread nD τ) none (κ₁ := K (c, kS p)) (κ₂ := K (peer p c, kR (mine p c)))
    (r₁ := 0) (r₂ := 0) (d₁ := 0) (d₂ := 0) (fs := fs) (fd := fd) (q := lendN i)
    (by rw [duties_snd]; exact Finset.mem_singleton_self _) hduty
    () () N (credit_slot (mine p c)) (amount_snd m c p 0) (amount_rcv m (peer p c) (mine p c) 0) (owR c l) rfl (W := W)
    (by rw [payload_snd]; unfold sndPay; rw [hi]; unfold owns
        iintro H; iexists fs
        isplitr; · ipureintro; exact hfs
        iexact H)
    (by rw [payload_rcv]; unfold rcvPay; rw [val_peer]; unfold owns
        iintro H; iexists (slotM (mine p c)).view.write (Elt F) fd ((slotM (mine p c)).view.read (Elt F) fs) Finset.univ
        isplitr
        · ipureintro; rw [View.read_write_univ]; exact hfs
        iexact H)) $$ [HO Htr Hts Hlend Hd]
  · isplitr; · iexact HIs
    isplitr; · iexact HIr
    isplitl [Hlend]; · iexact Hlend
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitr [Hc]
  · isplitl [HO]
    · unfold ow
      isplitr
      · isplitr; · iexact HR
        iexact HL
      · iexists W; iexact HO
    isplitl [Hl]; · iexact Hl
    iexact Hkeep
  · iexact Hc

/-- The wait for peer `p`'s copy: its block is in its slot, and the receive cell is closed. -/
theorem step_rcv {Q : α → sProp 𝕄} (p : Fin 10) (l : List (Fin 10)) (O : CellTallies nD τ sig Unit)
    (hO : (levAts L lv : sProp 𝕄) ⊢ MayWait (c : Thread nD τ) (.dma (rsem (slot p c))) () O)
    {src dst : Memref sig .tc .vmem S64x512 .bf16} (hd : dst = slotM (slot p c)) {sR : DmaSem sig} (h : sR = rsem (slot p c))
    {hsrc : src.view.WordExact} {hdst : dst.view.WordExact} :
    iprop(ow m K c O ∗ bigSepL (p :: l) (rcvOf (F := F) c))
      ⊢ iprop(((ow m K c O ∗ bigSepL l (rcvOf (F := F) c)) ∗ owns (c : Thread nD τ) (slotM (slot p c)) fullShare (val m (slot p c) c) ∗ semVal (rcvCell (slot p c) c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hd h
  rw [bigSepL_cons']
  unfold ow
  iintro ⟨⟨⟨#HR, #HL⟩, %W, HO⟩, Hp, Hl⟩ Hk
  icases (show rcvOf (F := F) c p ⊢ iprop(cred (tallyAt (rcvCell (slot p c) c) () N) ∗ atPos ER (rcvCell (slot p c) c) 0 ∅ 0) from BI.Entails.refl _) $$ Hp with ⟨Hc, Ha⟩
  icases (rec_rcv m K (slot p c) c) $$ HR with ⟨#HI, -⟩
  rw [← credit_slot (slot p c)]
  iapply (Rounds.wp_wait_rest_token 𝒱₀ ER (kRd m) (c : Thread nD τ) none (κ := K (c, kR (slot p c)))
      (wpE_waitDma2_eq 𝒱₀ (c : Thread nD τ) none Set.univ) (Set.mem_univ _) () (O := O) (W := W) (R := 0) (m := 0) (T := ∅)
      (by rw [Nat.zero_add, expect_rcv, credit_slot])) $$ [Hc HO Ha]
  · isplitr; · iexact HI
    isplitl [Hc]; · iexact Hc
    isplitl [HO]; · iexact HO
    isplitr; · iapply hO; iexact HL
    iexact Ha
  iintro ⟨HO, Ha, -, Hpay⟩
  ihave Hp := (Entails.of_eq (rest_rcv m c p)) $$ Hpay
  imod (close_cell m (rcvCell (slot p c) c) (K (c, kR (slot p c))) (0 + 1) (duties_later m _)) $$ [Ha] with Hz
  · isplitr; · iexact HI
    iexact Ha
  iapply Hk
  isplitl [HO Hl]
  · isplitl [HO]
    · isplitr
      · isplitr; · iexact HR
        iexact HL
      · iexists _; iexact HO
    · iexact Hl
  isplitl [Hp]
  · unfold rcvPay; iexact Hp
  · iexact Hz

/-- The wait for the copy to peer `p`: the share it was lent is back, and the send cell is closed. -/
theorem step_snt {Q : α → sProp 𝕄} (p : Fin 10) {src dst : Memref sig .tc .vmem S64x512 .bf16} (q : Fin 12) (hd : dst = slotM q) {sS : DmaSem sig} (h : sS = ssem p)
    {hsrc : src.view.WordExact} {hdst : dst.view.WordExact} :
    iprop(ow m K c 0 ∗ sntOf (F := F) c p)
      ⊢ iprop((ow m K c 0 ∗ sndPay m c p ∗ semVal (sndCell p c) 0
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hd h
  unfold ow sntOf
  iintro ⟨⟨⟨#HR, #HL⟩, %W, HO⟩, Hc, Ha⟩ Hk
  icases (rec_snd m K p c) $$ HR with ⟨#HI, -⟩
  rw [← credit_slot q]
  iapply (Rounds.wp_wait_rest_token 𝒱₀ ER (kRd m) (c : Thread nD τ) none (κ := K (c, kS p))
      (wpE_waitDma2_eq 𝒱₀ (c : Thread nD τ) none Set.univ) (Set.mem_univ _) () (O := 0) (W := W) (R := 0) (m := 0) (T := ∅)
      (by rw [Nat.zero_add, expect_snd, credit_slot])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_snd m c p)) $$ Hpay
  imod (close_cell m (sndCell p c) (K (c, kS p)) (0 + 1) (duties_later m _)) $$ [Ha] with Hz
  · isplitr; · iexact HI
    iexact Ha
  iapply Hk
  isplitl [HO]
  · isplitr
    · isplitr; · iexact HR
      iexact HL
    · iexists _; iexact HO
  isplitl [Hp]
  · iexact Hp
  · iexact Hz

end Steps

end Cert.KProof

end
-- ==== Proof.State.lean ====
/-
What a device's thread holds before the kernel's body and after it: the families over its peers, slots, cells and row
blocks, and the pipeline's proof data.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Families over the peers -/

/-- The ten peers, in the kernel's order. -/
abbrev peers : List (Fin 10) := [0, 1, 2, 3, 4, 5, 6, 7, 8, 9]
theorem finRange_10 : List.finRange 10 = peers := by decide

theorem bigSepL_zip {I : Type} (l : List I) (Φ Ψ : I → sProp 𝕄) : iprop(bigSepL l Φ ∗ bigSepL l Ψ) ⊢ (bigSepL l fun i => iprop(Φ i ∗ Ψ i) : sProp 𝕄) := by
  induction l with
  | nil => iintro ⟨-, -⟩; iempintro
  | cons i l ih =>
    rw [bigSepL_cons', bigSepL_cons', bigSepL_cons']
    iintro ⟨⟨H1, H2⟩, H3, H4⟩
    isplitl [H1 H3]
    · isplitl [H1] <;> iassumption
    · iapply ih; isplitl [H2] <;> iassumption

theorem bigSepL_swap {I : Type} (l : List I) (Φ Ψ : I → sProp 𝕄) : (bigSepL l fun i => iprop(Φ i ∗ Ψ i) : sProp 𝕄) ⊢ iprop(bigSepL l Φ ∗ bigSepL l Ψ) := by
  induction l with
  | nil => iintro -; isplitl <;> iempintro
  | cons i l ih =>
    rw [bigSepL_cons', bigSepL_cons', bigSepL_cons']
    iintro ⟨⟨H1, H2⟩, H3⟩
    icases ih $$ H3 with ⟨H3, H4⟩
    isplitl [H1 H3]
    · isplitl [H1] <;> iassumption
    · isplitl [H2] <;> iassumption

/-- The slots of a device: where its ten peers' blocks land, and its own two. -/
theorem slots_eq (Φ : Fin 12 → sProp 𝕄) : bigSep Finset.univ Φ = iprop(bigSepL (List.finRange 10) (fun p => Φ (slot p c)) ∗ Φ (mine 0 c) ∗ Φ (mine 9 c)) := by
  have h : (Finset.univ : Finset (Fin 12)) = (slots c).toFinset := by
    ext q; simp only [Finset.mem_univ, List.mem_toFinset, true_iff]; exact slots_all c q
  rw [bigSep_univ_eq_bigSepL (slots c) h (slots_nodup c)]
  unfold slots
  rw [bigSepL_append, bigSepL_map]; rfl

/-- The slots are the first buffer's four and the second's eight. -/
theorem slots_buf (Φ : Fin 12 → sProp 𝕄) : bigSep Finset.univ Φ = iprop(bigSep Finset.univ (fun j : Fin 4 => Φ (ySl j)) ∗ bigSep Finset.univ fun s : Fin 8 => Φ (fSl s)) := by
  rw [bigSep_univ_eq_bigSepL ((List.finRange 4).map ySl ++ (List.finRange 8).map fSl) (by decide) (by decide), bigSepL_append, bigSepL_map, bigSepL_map,
    bigSep_univ_eq_bigSepL (List.finRange 4) (by decide) (by decide), bigSep_univ_eq_bigSepL (List.finRange 8) (by decide) (by decide)]

/-- The cells of a device: its barrier, its ten send cells, the receive cells of its peers' slots and those of its own two. -/
theorem cells_eq (Φ : SemLoc sig → sProp 𝕄) : bigSep Finset.univ (fun k : Fin 23 => Φ (csem k))
    = iprop(Φ (.reg barS) ∗ bigSepL (List.finRange 10) (fun p => Φ (.dma (ssem p))) ∗ bigSep Finset.univ fun q : Fin 12 => Φ (.dma (rsem q))) := by
  rw [bigSep_univ_eq_bigSepL (kB :: ((List.finRange 10).map kS ++ (List.finRange 12).map kR)) (by decide +kernel) (by decide +kernel), bigSepL_cons', bigSepL_append,
    bigSepL_map, bigSepL_map, bigSep_univ_eq_bigSepL (List.finRange 12) (by decide) (by decide)]
  simp only [csem_kB, csem_kS, csem_kR]

/-- The row block of the result a slot of the second buffer fills. -/
def rowB (q : Fin 12) : Fin 8 := ⟨(q.val - 4) % 8, Nat.mod_lt _ (by decide)⟩
theorem fSl_rowB (q : Fin 12) (hq : ¬ q.val < 4) : fSl (rowB q) = q := by revert hq; revert q; decide
theorem row_off (q : Fin 12) (hq : ¬ q.val < 4) : (![64 * ix q, 0] : Fin 2 → ℕ) = ![64 * (rowB q).val, 0] := by revert hq; revert q; decide
/-- The row blocks of the result: the device's own and its peers'. -/
theorem rows_eq (Φ : Fin 8 → sProp 𝕄) : bigSep Finset.univ Φ = iprop(Φ (rowB (mine 9 c)) ∗ bigSepL [3, 4, 5, 6, 7, 8, 9] fun p : Fin 10 => Φ (rowB (slot p c))) := by
  have h : ∀ c : Dev nD, (Finset.univ : Finset (Fin 8)) = (rowB (mine 9 c) :: ([3, 4, 5, 6, 7, 8, 9] : List (Fin 10)).map fun p => rowB (slot p c)).toFinset
      ∧ (rowB (mine 9 c) :: ([3, 4, 5, 6, 7, 8, 9] : List (Fin 10)).map fun p => rowB (slot p c)).Nodup := by decide +kernel
  rw [bigSep_univ_eq_bigSepL _ (h c).1 (h c).2, bigSepL_cons', bigSepL_map]

/-! ## The pipeline's proof data -/

def s₀ : MemSt nD τ sig (Elt F) := ⟨m, fun _ => 0, ρ⟩

/-- The ghost state device `c` starts from: the records, its positions at round 0 of its cells, the tokens of the duties it pays. -/
def ghost (K : Dev nD × Fin 23 → ℕ) : sProp 𝕄 :=
  iprop(records m K ∗ (bigSep Finset.univ fun k : Fin 23 => atPos ER (kcell (c, k)) 0 ∅ 0)
    ∗ bigSepL (List.finRange 10) (fun p => dutyTok ER (barCell (peer p c)) 0 (inv p))
    ∗ bigSepL (List.finRange 10) (fun p => iprop(dutyTok ER (rcvCell (mine p c) (peer p c)) 0 0 ∗ dutyTok ER (sndCell p c) 0 0)))

/-- That at some names, its credit (its barrier's ten units, its receive cells' blocks) and the level facts. -/
def start : sProp 𝕄 :=
  iprop((∃ K, ghost m c K) ∗ cred (tallyAt (barCell c) () 10) ∗ bigSepL (List.finRange 10) (fun p => cred (tallyAt (rcvCell (slot p c) c) () N)) ∗ levAts L lv)

/-- The two gather buffers at whatever they hold. -/
def bufs : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ : sProp 𝕄 := iprop(start m c ∗ bufs c)
/-- After the body: the gather buffers, and every cell closed at zero. -/
def Φ₁ : sProp 𝕄 := iprop(bufs (F := F) c ∗ bigSep Finset.univ fun k : Fin 23 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xids m c
    | ⟨1, _⟩ => xtab m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The gather buffers are the slots, -/
theorem bufs_split : bufs (F := F) c ⊢ (iprop(bigSepL (List.finRange 10) (fun p => some_ (F := F) c (slot p c)) ∗ some_ (F := F) c (mine 0 c) ∗ some_ (F := F) c (mine 9 c)) : sProp 𝕄) := by
  rw [← slots_eq c (fun q => some_ (F := F) c q), slots_buf]
  unfold bufs
  iintro ⟨⟨%f, Hy⟩, ⟨%g, Hf⟩⟩
  isplitl [Hy]
  · iapply (y_split c f); iexact Hy
  · iapply (f_split c g); iexact Hf
/-- and back. -/
theorem bufs_join : (iprop(bigSepL (List.finRange 10) (fun p => some_ (F := F) c (slot p c)) ∗ some_ (F := F) c (mine 0 c) ∗ some_ (F := F) c (mine 9 c)) : sProp 𝕄) ⊢ bufs (F := F) c := by
  rw [← slots_eq c (fun q => some_ (F := F) c q), slots_buf]
  unfold bufs
  iintro ⟨Hy, Hf⟩
  isplitl [Hy]
  · iapply (y_join c); iexact Hy
  · iapply (f_join c); iexact Hf

/-! ## The first buffer once its copies have landed -/

/-- The slots of the first buffer: the device's own, what is left of its share, and its peers'. -/
def ySt : sProp 𝕄 :=
  iprop(owns (c : Thread nD τ) (slotM (mine 0 c)) (keep 3) (val m (mine 0 c) c) ∗ owns (c : Thread nD τ) (slotM (slot 0 c)) fullShare (val m (slot 0 c) c)
    ∗ owns (c : Thread nD τ) (slotM (slot 1 c)) fullShare (val m (slot 1 c) c) ∗ owns (c : Thread nD τ) (slotM (slot 2 c)) fullShare (val m (slot 2 c) c))
theorem ySl_cases (j : Fin 4) : ySl j = mine 0 c ∨ ySl j = slot 0 c ∨ ySl j = slot 1 c ∨ ySl j = slot 2 c := by
  revert c j; decide +kernel
/-- Slot `j` is there at the partial product of the device at `j` along `y`. -/
theorem ySt_acc (j : Fin 4) : ySt m c ⊢ (iprop(∃ sh, owns (c : Thread nD τ) (slotM (ySl j)) sh (part m (yAt c j))
    ∗ (owns (c : Thread nD τ) (slotM (ySl j)) sh (part m (yAt c j)) -∗ ySt m c)) : sProp 𝕄) := by
  rw [← val_ySl m j c]
  unfold ySt
  iintro ⟨H, H0, H1, H2⟩
  rcases ySl_cases c j with h | h | h | h <;> rw [h]
  · iexists keep 3; isplitl [H]; · iexact H
    iintro H; isplitl [H]; · iexact H
    isplitl [H0]; · iexact H0
    isplitl [H1] <;> iassumption
  · iexists fullShare; isplitl [H0]; · iexact H0
    iintro H0; isplitl [H]; · iexact H
    isplitl [H0]; · iexact H0
    isplitl [H1] <;> iassumption
  · iexists fullShare; isplitl [H1]; · iexact H1
    iintro H1; isplitl [H]; · iexact H
    isplitl [H0]; · iexact H0
    isplitl [H1] <;> iassumption
  · iexists fullShare; isplitl [H2]; · iexact H2
    iintro H2; isplitl [H]; · iexact H
    isplitl [H0]; · iexact H0
    isplitl [H1] <;> iassumption

/-- The kernel's read of slot `j`. -/
theorem step_ld_y {α : Type} {Q : α → sProp 𝕄} (j : Fin 4) {off : Fin 3 → ℕ} (h : off = ![j.val, 0, 0]) {inb : ∀ a, off a + S1x64x512.size a ≤ S4x64x512.size a}
    {hl : yM.view.LoadsAt (Rect.unit (s := S4x64x512) off S1x64x512.size inb).toLoadRect}
    {k : (S1x64x512.Idx → Elt F .bf16) → Prog (TpuEff nD τ sig (Elt F) Λ₀ .tc) α} :
    ySt m c ⊢ iprop((∀ X, ⌜shapeCast S64x512 X shapeCasts_S1x64x512_S64x512 = part m (yAt c j)⌝ -∗ ySt m c
            -∗ wp frame (wpE (defs₀ (F := F)) 𝒱₀ (c : Thread nD τ) none) Set.univ (k X) Q)
          -∗ wp frame (wpE (defs₀ (F := F)) 𝒱₀ (c : Thread nD τ) none) Set.univ
              (.op (.load yM (Rect.unit (s := S4x64x512) off S1x64x512.size inb).toLoadRect hl) k) Q) := by
  iintro H Hk
  icases (ySt_acc m c j) $$ H with ⟨%sh, H, Hback⟩
  iapply (wp_load_y c (ySl j) (ySl_lt j) (h.trans (by rw [ix_ySl])) sh _) $$ H
  iintro %X %hX H
  iapply Hk $$ %X
  · ipureintro; exact hX
  · iapply Hback; iexact H

/-- The sum the kernel takes of the four slots it read, as a block and as the slot it stores. -/
theorem sum_block {X0 X1 X2 X3 : S1x64x512.Idx → F .bf16} (h0 : shapeCast S64x512 X0 shapeCasts_S1x64x512_S64x512 = part m (yAt c 0))
    (h1 : shapeCast S64x512 X1 shapeCasts_S1x64x512_S64x512 = part m (yAt c 1)) (h2 : shapeCast S64x512 X2 shapeCasts_S1x64x512_S64x512 = part m (yAt c 2))
    (h3 : shapeCast S64x512 X3 shapeCasts_S1x64x512_S64x512 = part m (yAt c 3)) : k0_pay3 (k0_pay2 X0 X1) X2 X3 = full m c := by
  unfold k0_pay3 k0_pay2 full; rw [← h0, ← h1, ← h2, ← h3]
theorem sum_slot {X0 X1 X2 X3 : S1x64x512.Idx → F .bf16} (h0 : shapeCast S64x512 X0 shapeCasts_S1x64x512_S64x512 = part m (yAt c 0))
    (h1 : shapeCast S64x512 X1 shapeCasts_S1x64x512_S64x512 = part m (yAt c 1)) (h2 : shapeCast S64x512 X2 shapeCasts_S1x64x512_S64x512 = part m (yAt c 2))
    (h3 : shapeCast S64x512 X3 shapeCasts_S1x64x512_S64x512 = part m (yAt c 3)) :
    shapeCast S64x512 (k0_pay4 (k0_pay2 X0 X1) X2 X3) shapeCasts_S1x64x512_S64x512 = full m c := by
  rw [← sum_block m c h0 h1 h2 h3]; unfold k0_pay4 k0_pay3; exact shapeCast_shapeCast _ _ _

/-! ## One block of the result -/

/-- Row block `s` of the result, at any contents, -/
def rowOf' (s : Fin 8) : sProp 𝕄 := iprop(∃ X, owns (c : Thread nD τ) (oSlot s) fullShare (X : Blk F))
/-- and the one that belongs to peer `p`. -/
def rowOf (p : Fin 10) : sProp 𝕄 := iprop(∃ X, owns (c : Thread nD τ) (oSlot (rowB (slot p c))) fullShare (X : Blk F))
/-- What there is once peer `p`'s block has arrived and has been copied to the result. -/
def blkDone (p : Fin 10) : sProp 𝕄 :=
  iprop((owns (c : Thread nD τ) (slotM (slot p c)) fullShare (val m (slot p c) c) ∗ owns (c : Thread nD τ) (oSlot (rowB (slot p c))) fullShare (val m (slot p c) c))
    ∗ semVal (rcvCell (slot p c) c) 0)

/-- Waiting for peer `p`'s block, reading it and writing it to its rows of the result. -/
theorem step_blk (K : Dev nD × Fin 23 → ℕ) {α : Type} {Q : α → sProp 𝕄} (p : Fin 10) (hp : 3 ≤ p.val) (l : List (Fin 10)) {oS : Fin 1 → ℕ} {oV oL : Fin 3 → ℕ} {oR : Fin 2 → ℕ}
    (ho : oS = ![ix (slot p c)] ∧ oV = ![ix (slot p c), 0, 0] ∧ oL = ![ix (slot p c), 0, 0] ∧ oR = ![64 * ix (slot p c), 0])
    {sR : DmaSem sig} {src dst : Memref sig .tc .vmem S64x512 .bf16}
    (hd : ∀ _ : oV = ![ix (slot p c), 0, 0], dst = slotM (slot p c)) (h : ∀ _ : oS = ![ix (slot p c)], sR = rsem (slot p c))
    {hsrc : src.view.WordExact} {hdst : dst.view.WordExact}
    {inb : ∀ a, oL a + S1x64x512.size a ≤ S8x64x512.size a} {hl : fM.view.LoadsAt (Rect.unit (s := S8x64x512) oL S1x64x512.size inb).toLoadRect}
    {inb' : ∀ a, oR a + S64x512.size a ≤ S512x512.size a} {hl' : oM.view.LoadsAt (Rect.unit (s := S512x512) oR S64x512.size inb').toLoadRect}
    {hx : (oM.access (Rect.unit (s := S512x512) oR S64x512.size inb')).Stores Finset.univ}
    {hm : Finset.univ = Finset.univ ∨ ∀ a, (Rect.unit (s := S512x512) oR S64x512.size inb').stride a = 1}
    {pay : (S1x64x512.Idx → Elt F .bf16) → Blk F} (hpay : ∀ v, pay v = shapeCast S64x512 v shapeCasts_S1x64x512_S64x512)
    {k : PUnit → Prog (TpuEff nD τ sig (Elt F) Λ₀ .tc) α} :
    iprop(ow m K c 0 ∗ bigSepL (p :: l) (rcvOf (F := F) c) ∗ bigSepL (p :: l) (rowOf (F := F) c))
      ⊢ iprop(((ow m K c 0 ∗ bigSepL l (rcvOf (F := F) c) ∗ bigSepL l (rowOf (F := F) c)) ∗ blkDone m c p
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sR src dst hsrc hdst) fun _ => .op (.load fM (Rect.unit (s := S8x64x512) oL S1x64x512.size inb).toLoadRect hl) fun v =>
              .op (.load oM (Rect.unit (s := S512x512) oR S64x512.size inb').toLoadRect hl') fun _ =>
                .op (.store oM (Rect.unit (s := S512x512) oR S64x512.size inb') (pay v) Finset.univ hx hm) k) Q) := by
  obtain ⟨h1, h2, h3, h4⟩ := ho
  have hq : ¬ (slot p c).val < 4 := fun h => absurd ((slot_lt p c).mp h) (by omega)
  rw [bigSepL_cons' (Φ := rowOf (F := F) c)]
  iintro ⟨How, HV, Hr, Hrs⟩ Hk
  icases (show rowOf (F := F) c p ⊢ (iprop(∃ X, owns (c : Thread nD τ) (oSlot (rowB (slot p c))) fullShare (X : Blk F)) : sProp 𝕄) from BI.Entails.refl _) $$ Hr with ⟨%X, Hr⟩
  iapply (step_rcv m K c p l 0 (by rw [MayWait_zero]; iintro -; iempintro) (hd h2) (h h1)) $$ [How HV]
  · isplitl [How] <;> iassumption
  iintro ⟨⟨How, HV⟩, Hs, Hz⟩
  iapply (wp_load_f c (slot p c) hq h3 fullShare _) $$ Hs; iintro %v %hv Hs
  iapply (wp_out c (rowB (slot p c)) (h4.trans (row_off _ hq)) X) $$ Hr
  rw [hpay, hv]
  iintro Hr
  iapply Hk
  unfold blkDone
  isplitl [How HV Hrs]
  · isplitl [How]; · iexact How
    isplitl [HV] <;> iassumption
  · isplitl [Hs Hr]
    · isplitl [Hs] <;> iassumption
    · iexact Hz

/-! ## Putting the pieces together again -/

/-- A loan returned: the lent share and what was left make what there was. -/
theorem regain (p : Fin 10) (n : ℕ) (q : Fin 12) (hq : mine p c = q) (hn : lend p = lendN n) :
    iprop(sndPay m c p ∗ owns (c : Thread nD τ) (slotM q) (keep (n + 1)) (val m q c)) ⊢ (owns (c : Thread nD τ) (slotM q) (keep n) (val m q c) : sProp 𝕄) := by
  subst hq; unfold sndPay; rw [hn]
  exact owns_share (c : Thread nD τ) (slotM (mine p c)) (keep_op n) _

/-- The blocks of the seven peers and the device's own: the slots, the cells, and the result. -/
theorem blocks_out : iprop(bigSepL [3, 4, 5, 6, 7, 8, 9] (blkDone m c) ∗ owns (c : Thread nD τ) (oSlot (rowB (mine 9 c))) fullShare (full m c))
    ⊢ (iprop((bigSepL [3, 4, 5, 6, 7, 8, 9] (fun p => some_ (F := F) c (slot p c)) ∗ bigSepL [3, 4, 5, 6, 7, 8, 9] (fun p => semVal (rcvCell (slot p c) c) 0))
        ∗ (((c : Thread nD τ).loc cc0_stg2_0) ↦{fullShare} outAt m c)) : sProp 𝕄) := by
  have hmine : full m (sAt c (rowB (mine 9 c))) = full m c := by
    rw [← val_fSl, fSl_rowB _ (fun h => absurd ((mine_lt 9 c).mp h) (by decide)), val_mine_f m 9 (by decide) c]
  have hslot (p : Fin 10) (hp : 3 ≤ p.val) : full m (sAt c (rowB (slot p c))) = val m (slot p c) c := by
    rw [← val_fSl, fSl_rowB _ (fun h => absurd ((slot_lt p c).mp h) (by omega))]
  have hrows : iprop(owns (c : Thread nD τ) (oSlot (rowB (mine 9 c))) fullShare (full m c)
      ∗ bigSepL [3, 4, 5, 6, 7, 8, 9] (fun p => owns (c : Thread nD τ) (oSlot (rowB (slot p c))) fullShare (val m (slot p c) c)))
      ⊢ (((c : Thread nD τ).loc cc0_stg2_0) ↦{fullShare} outAt m c : sProp 𝕄) := by
    refine BI.Entails.trans ?_ (o_join c fun s => full m (sAt c s))
    rw [rows_eq c, hmine]
    refine sep_mono_right (bigSepL_mono fun p hp => Entails.of_eq ?_)
    rw [hslot p (by revert hp; revert p; decide)]
  iintro ⟨Hb, Ho⟩
  icases (show bigSepL [3, 4, 5, 6, 7, 8, 9] (blkDone m c) ⊢ (iprop(bigSepL [3, 4, 5, 6, 7, 8, 9] (fun p => iprop(owns (c : Thread nD τ) (slotM (slot p c)) fullShare (val m (slot p c) c)
      ∗ owns (c : Thread nD τ) (oSlot (rowB (slot p c))) fullShare (val m (slot p c) c))) ∗ bigSepL [3, 4, 5, 6, 7, 8, 9] (fun p => semVal (rcvCell (slot p c) c) 0)) : sProp 𝕄)
      from bigSepL_swap _ _ _) $$ Hb with ⟨Hb, Hz⟩
  icases (bigSepL_swap [3, 4, 5, 6, 7, 8, 9] (fun p => (owns (c : Thread nD τ) (slotM (slot p c)) fullShare (val m (slot p c) c) : sProp 𝕄))
      (fun p => (owns (c : Thread nD τ) (oSlot (rowB (slot p c))) fullShare (val m (slot p c) c) : sProp 𝕄))) $$ Hb with ⟨Hs, Hr⟩
  isplitl [Hs Hz]
  · isplitl [Hs]
    · iapply (bigSepL_mono (fun p _ => show owns (c : Thread nD τ) (slotM (slot p c)) fullShare (val m (slot p c) c) ⊢ some_ (F := F) c (slot p c) from by iintro H; iexists _; iexact H)); iexact Hs
    · iexact Hz
  · iapply hrows
    isplitl [Ho] <;> iassumption

end Cert.KProof

end
-- ==== Proof.Body.lean ====
/-
The kernel's body on any device, step by step.
-/
module

public import proofs.«01_k».proof.Proof.State
public import proofs.«01_k».proof.Proof.Gen.KernelIdeal.Points

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the body starts from, -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
/-- and what it ends in. -/
def bodyPost (c : Dev nD) : sProp 𝕄 :=
  iprop(Φ₁ c ∗ (dats m ρ 0 c).owesAt () t0_0.succ ∗ stg c cc0_stg0_0 (xids m c) ∗ stg c cc0_stg1_0 (xtab m c) ∗ stg c cc0_stg2_0 (outAt m c))

set_option maxRecDepth 4000 in
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            cc0_scratch2 cc0_scratch3 cc0_scratch4 cc0_scratch5) Kt := by
  rw [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start
  iintro ⟨⟨⟨⟨⟨%K, Hg⟩, HcB, HcV, #HL⟩, Hbufs⟩, Ho, ⟨%d0, %g0, %hg0, Hx⟩, ⟨%d1, %g1, %hg1, He⟩, ⟨%d2, %g2, %hg2, Hout⟩⟩, Hk⟩
  have hx : g0 = xids m c := by rw [hg0]; unfold Dat.before; rw [if_pos (fetch0_0 t0_0)]; rfl
  have he : g1 = xtab m c := by rw [hg1]; unfold Dat.before; rw [if_pos (fetch0_1 t0_0)]; rfl
  subst hx he
  unfold Dat.owesAt Pipeline.owesWithin
  icases Ho with ⟨%W, %hW, HO⟩
  rw [show (dats m ρ 0 c).owed t0_0.castSucc = O₀ c from rfl]
  unfold ghost
  icases Hg with ⟨#HR, Hat, HtB, HtC⟩
  ihave Hat := (Entails.of_eq (cells_eq (fun s => (atPos ER ((c : Thread nD τ), s) 0 ∅ 0 : sProp 𝕄)))) $$ Hat
  icases Hat with ⟨HaB, HaS, HaR⟩
  ihave HaR := (Entails.of_eq (slots_eq c (fun q => (atPos ER (rcvCell q c) 0 ∅ 0 : sProp 𝕄)))) $$ HaR
  icases HaR with ⟨HaR, HaM0, HaM9⟩
  icases (bufs_split (F := F) c) $$ Hbufs with ⟨Hslots, Hm0, Hm9⟩
  ihave Hsig := (show iprop(bigSepL (List.finRange 10) (fun p => dutyTok ER (barCell (peer p c)) 0 (inv p)) ∗ bigSepL (List.finRange 10) (fun p => some_ (F := F) c (slot p c)))
      ⊢ (bigSepL (List.finRange 10) (sigOf (F := F) c) : sProp 𝕄) from bigSepL_zip _ _ _) $$ [HtB Hslots]
  · isplitl [HtB] <;> iassumption
  ihave H := (show iprop(((records m K ∗ levAts L lv) ∗ ∃ W, owes (c : Thread nD τ) (owS c (List.finRange 10)) W) ∗ bigSepL (List.finRange 10) (sigOf (F := F) c))
      ⊢ iprop(ow m K c (owS c [0, 1, 2, 3, 4, 5, 6, 7, 8, 9]) ∗ bigSepL [0, 1, 2, 3, 4, 5, 6, 7, 8, 9] (sigOf (F := F) c)) from by rw [finRange_10]; exact BI.Entails.refl _) $$ [HO Hsig]
  · isplitl [HO]
    · isplitr
      · isplitr; · iexact HR
        iexact HL
      · iexists W; iexact HO
    · iexact Hsig
  obtain ⟨e0, e1, e2, e3, e4, e5, e6, e7, e8, e9⟩ := dev_sig c
  iapply (step_sig m K c 0 _ _ e0) $$ H; iintro H
  iapply (step_sig m K c 1 _ _ e1) $$ H; iintro H
  iapply (step_sig m K c 2 _ _ e2) $$ H; iintro H
  iapply (step_sig m K c 3 _ _ e3) $$ H; iintro H
  iapply (step_sig m K c 4 _ _ e4) $$ H; iintro H
  iapply (step_sig m K c 5 _ _ e5) $$ H; iintro H
  iapply (step_sig m K c 6 _ _ e6) $$ H; iintro H
  iapply (step_sig m K c 7 _ _ e7) $$ H; iintro H
  iapply (step_sig m K c 8 _ _ e8) $$ H; iintro H
  iapply (step_sig m K c 9 _ _ e9) $$ H; iintro ⟨How, -⟩
  -- the device's own partial product, stored in its slot of the first buffer
  iapply (wp_load 𝒱₀ (c : Thread nD τ) none Set.univ (m := (Memref.whole cc0_stg0_0 : Memref sig .tc .vmem S512x1 .i32)) (Finset.subset_univ _)) $$ Hx; iintro Hx
  iapply (wp_load 𝒱₀ (c : Thread nD τ) none Set.univ (m := (Memref.whole cc0_stg1_0 : Memref sig .tc .vmem S4096x512 .bf16)) (Finset.subset_univ _)) $$ He; iintro He
  rw [show (Memref.whole cc0_stg1_0 : Memref sig .tc .vmem S4096x512 .bf16).view.readAt (Elt F) (Rect.unit (s := S4096x512) ![0, 0] S4096x512.size inb_S4096x512_S4096x512_0_0).toLoadRect (xtab m c)
    = xtab m c from Memref.readAt_unit_zero (Elt F) cc0_stg1_0 hz2 _ _]
  obtain ⟨o2, o4, o3, o7, o9, o8, o1, o10⟩ := off_mine c
  icases Hm0 with ⟨%X0, Hm0⟩
  iapply (wp_load_y c (mine 0 c) ((mine_lt 0 c).mpr (by decide)) o2 fullShare X0) $$ Hm0; iintro %L0 %hL0 Hm0
  iapply (wp_store_y c (mine 0 c) ((mine_lt 0 c).mpr (by decide)) o2 X0) $$ Hm0; iintro Hm0
  ihave Hm0 := (show owns (c : Thread nD τ) (slotM (mine 0 c)) fullShare (part m c) ⊢ (owns (c : Thread nD τ) (slotM (mine 0 c)) (keep 0) (val m (mine 0 c) c) : sProp 𝕄) from by
    rw [val_mine_y m 0 (by decide) c]; exact BI.Entails.refl _) $$ Hm0
  iapply (step_bar m K c) $$ [How HcB HaB]
  · isplitl [How]; · iexact How
    isplitl [HcB] <;> iassumption
  iintro ⟨How, HzB, Hpeer⟩
  -- the three copies along `y`
  ihave H := (show iprop(ow m K c (owR c (List.finRange 10)) ∗ (bigSepL (List.finRange 10) (fun p => iprop(dutyTok ER (rcvCell (mine p c) (peer p c)) 0 0 ∗ dutyTok ER (sndCell p c) 0 0))
        ∗ bigSepL (List.finRange 10) (barPay (F := F) c)) ∗ owns (c : Thread nD τ) (slotM (mine 0 c)) (keep 0) (val m (mine 0 c) c))
      ⊢ iprop(ow m K c (owR c [0, 1, 2, 3, 4, 5, 6, 7, 8, 9]) ∗ bigSepL [0, 1, 2, 3, 4, 5, 6, 7, 8, 9] (cpyOf (F := F) c)
        ∗ owns (c : Thread nD τ) (slotM (mine 0 c)) (keep 0) (val m (mine 0 c) c)) from by
    rw [finRange_10]; exact sep_mono_right (sep_mono_left (bigSepL_zip _ _ _))) $$ [How HtC Hpeer Hm0]
  · isplitl [How]; · iexact How
    isplitl [HtC Hpeer]
    · isplitl [HtC] <;> iassumption
    · iexact Hm0
  simp only [k0_part7_eq_skeleton, k0_part8_eq_skeleton, k0_part9_eq_skeleton, k0_part10_eq_skeleton, k0_part11_eq_skeleton]
  unfold k0_part7_skel k0_part8_skel k0_part9_skel k0_part10_skel k0_part11_skel
  simp only [Prog.lift, Prog.bind_op, Prog.bind_ret, Prog.pure_eq_ret]
  obtain ⟨n0, n1, n2, n3, n4, n5, n6, n7, n8, n9⟩ := dev_snd c
  have hm0 : (mine 0 c).val < 4 := (mine_lt 0 c).mpr (by decide)
  iapply (step_cpy m K c 0 _ 0 (mine 0 c) rfl rfl _ n0 (slotM_y _ hm0 o4 _) (slotM_y _ hm0 o4 _) (ssem_y 0 (by decide) _) (rsem_y _ hm0 _ o3 _)) $$ H; iintro ⟨H, HcS0⟩
  iapply (step_cpy m K c 1 _ 1 (mine 0 c) rfl rfl _ n1 (slotM_y _ hm0 o4 _) (slotM_y _ hm0 o4 _) (ssem_y 1 (by decide) _) (rsem_y _ hm0 _ o3 _)) $$ H; iintro ⟨H, HcS1⟩
  iapply (step_cpy m K c 2 _ 2 (mine 0 c) rfl rfl _ n2 (slotM_y _ hm0 o4 _) (slotM_y _ hm0 o4 _) (ssem_y 2 (by decide) _) (rsem_y _ hm0 _ o3 _)) $$ H
  iintro ⟨⟨How, HC, Hm0⟩, HcS2⟩
  -- the three waits for the copies along `y`
  obtain ⟨⟨y1, z1⟩, ⟨y2, z2⟩, ⟨y3, z3⟩⟩ := off_y c
  have hy (p : Fin 10) (hp : p.val < 3) : (slot p c).val < 4 := (slot_lt p c).mpr hp
  have hw (p : Fin 10) (hp : p.val < 3) := mayWait_rcv (F := F) c p hp [3, 4, 5, 6, 7, 8, 9] (by decide)
  ihave HV := (show iprop(bigSepL (List.finRange 10) (fun p => cred (tallyAt (rcvCell (slot p c) c) () N)) ∗ bigSepL (List.finRange 10) (fun p => atPos ER (rcvCell (slot p c) c) 0 ∅ 0))
      ⊢ (bigSepL [0, 1, 2, 3, 4, 5, 6, 7, 8, 9] (rcvOf (F := F) c) : sProp 𝕄) from by rw [finRange_10]; exact bigSepL_zip _ _ _) $$ [HcV HaR]
  · isplitl [HcV] <;> iassumption
  iapply (step_rcv m K c 0 _ _ (hw 0 (by decide)) (slotM_y _ (hy 0 (by decide)) z1 _) (rsem_y _ (hy 0 (by decide)) _ y1 _)) $$ [How HV]
  · isplitl [How] <;> iassumption
  iintro ⟨H, Hs0, HzR0⟩
  iapply (step_rcv m K c 1 _ _ (hw 1 (by decide)) (slotM_y _ (hy 1 (by decide)) z2 _) (rsem_y _ (hy 1 (by decide)) _ y2 _)) $$ H; iintro ⟨H, Hs1, HzR1⟩
  iapply (step_rcv m K c 2 _ _ (hw 2 (by decide)) (slotM_y _ (hy 2 (by decide)) z3 _) (rsem_y _ (hy 2 (by decide)) _ y3 _)) $$ H; iintro ⟨⟨How, HV⟩, Hs2, HzR2⟩
  -- the four slots read, their sum stored in the device's slot of the second buffer
  ihave HY := (show iprop(owns (c : Thread nD τ) (slotM (mine 0 c)) (keep 3) (val m (mine 0 c) c) ∗ owns (c : Thread nD τ) (slotM (slot 0 c)) fullShare (val m (slot 0 c) c)
      ∗ owns (c : Thread nD τ) (slotM (slot 1 c)) fullShare (val m (slot 1 c) c) ∗ owns (c : Thread nD τ) (slotM (slot 2 c)) fullShare (val m (slot 2 c) c)) ⊢ ySt m c from BI.Entails.refl _)
    $$ [Hm0 Hs0 Hs1 Hs2]
  · isplitl [Hm0]; · iexact Hm0
    isplitl [Hs0]; · iexact Hs0
    isplitl [Hs1] <;> iassumption
  iapply (step_ld_y m c 0 rfl) $$ HY; iintro %Y0 %hY0 HY
  iapply (step_ld_y m c 1 rfl) $$ HY; iintro %Y1 %hY1 HY
  iapply (step_ld_y m c 2 rfl) $$ HY; iintro %Y2 %hY2 HY
  iapply (step_ld_y m c 3 rfl) $$ HY; iintro %Y3 %hY3 HY
  have hm9 : ¬ (mine 9 c).val < 4 := fun h => absurd ((mine_lt 9 c).mp h) (by decide)
  icases Hm9 with ⟨%X9, Hm9⟩
  iapply (wp_load_f c (mine 9 c) hm9 o7 fullShare X9) $$ Hm9; iintro %L9 %hL9 Hm9
  iapply (wp_store_f c (mine 9 c) hm9 o7 X9) $$ Hm9
  rw [sum_slot m c hY0 hY1 hY2 hY3, ← val_mine_f m 9 (by decide) c]
  iintro Hm9
  rw [sum_block m c hY0 hY1 hY2 hY3]
  -- the seven copies across `x` and `z`
  simp only [k0_part12_eq_skeleton, k0_part13_eq_skeleton, k0_part14_eq_skeleton, k0_part15_eq_skeleton, k0_part16_eq_skeleton]
  unfold k0_part12_skel k0_part13_skel k0_part14_skel k0_part15_skel k0_part16_skel
  simp only [Prog.lift, Prog.bind_op, Prog.bind_ret, Prog.pure_eq_ret]
  ihave H := (show iprop(ow m K c (owR c [3, 4, 5, 6, 7, 8, 9]) ∗ bigSepL [3, 4, 5, 6, 7, 8, 9] (cpyOf (F := F) c) ∗ owns (c : Thread nD τ) (slotM (mine 9 c)) fullShare (val m (mine 9 c) c))
      ⊢ iprop(ow m K c (owR c [3, 4, 5, 6, 7, 8, 9]) ∗ bigSepL [3, 4, 5, 6, 7, 8, 9] (cpyOf (F := F) c) ∗ owns (c : Thread nD τ) (slotM (mine 9 c)) (keep 0) (val m (mine 9 c) c))
      from BI.Entails.refl _) $$ [How HC Hm9]
  · isplitl [How]; · iexact How
    isplitl [HC] <;> iassumption
  iapply (step_cpy m K c 3 _ 0 (mine 9 c) rfl rfl _ n3 (slotM_f _ hm9 o9 _) (slotM_f _ hm9 o9 _) (ssem_f 3 (by decide) _) (rsem_f _ hm9 _ o8 _)) $$ H; iintro ⟨H, HcS3⟩
  iapply (step_cpy m K c 4 _ 1 (mine 9 c) rfl rfl _ n4 (slotM_f _ hm9 o9 _) (slotM_f _ hm9 o9 _) (ssem_f 4 (by decide) _) (rsem_f _ hm9 _ o8 _)) $$ H; iintro ⟨H, HcS4⟩
  iapply (step_cpy m K c 5 _ 2 (mine 9 c) rfl rfl _ n5 (slotM_f _ hm9 o9 _) (slotM_f _ hm9 o9 _) (ssem_f 5 (by decide) _) (rsem_f _ hm9 _ o8 _)) $$ H; iintro ⟨H, HcS5⟩
  iapply (step_cpy m K c 6 _ 3 (mine 9 c) rfl rfl _ n6 (slotM_f _ hm9 o9 _) (slotM_f _ hm9 o9 _) (ssem_f 6 (by decide) _) (rsem_f _ hm9 _ o8 _)) $$ H; iintro ⟨H, HcS6⟩
  iapply (step_cpy m K c 7 _ 4 (mine 9 c) rfl rfl _ n7 (slotM_f _ hm9 o9 _) (slotM_f _ hm9 o9 _) (ssem_f 7 (by decide) _) (rsem_f _ hm9 _ o8 _)) $$ H; iintro ⟨H, HcS7⟩
  iapply (step_cpy m K c 8 _ 5 (mine 9 c) rfl rfl _ n8 (slotM_f _ hm9 o9 _) (slotM_f _ hm9 o9 _) (ssem_f 8 (by decide) _) (rsem_f _ hm9 _ o8 _)) $$ H; iintro ⟨H, HcS8⟩
  iapply (step_cpy m K c 9 _ 6 (mine 9 c) rfl rfl _ n9 (slotM_f _ hm9 o9 _) (slotM_f _ hm9 o9 _) (ssem_f 9 (by decide) _) (rsem_f _ hm9 _ o8 _)) $$ H
  iintro ⟨⟨How, -, Hm9⟩, HcS9⟩
  -- the device's own rows of the result
  ihave Ho := (show (((c : Thread nD τ).loc cc0_stg2_0) ↦{fullShare} g2 : sProp 𝕄)
      ⊢ iprop(rowOf' (F := F) c (rowB (mine 9 c)) ∗ bigSepL [3, 4, 5, 6, 7, 8, 9] (rowOf (F := F) c)) from by
    have h := o_split (F := F) c g2
    rw [rows_eq c] at h; exact h) $$ Hout
  icases Ho with ⟨Ho, Hrows⟩
  icases (show rowOf' (F := F) c (rowB (mine 9 c)) ⊢ (iprop(∃ X, owns (c : Thread nD τ) (oSlot (rowB (mine 9 c))) fullShare (X : Blk F)) : sProp 𝕄) from BI.Entails.refl _) $$ Ho with ⟨%Xo, Ho⟩
  iapply (wp_out c (rowB (mine 9 c)) (o10.trans (row_off _ hm9)) Xo) $$ Ho; iintro Ho
  -- the blocks of the seven peers
  simp only [k0_part17_eq_skeleton, k0_part18_eq_skeleton, k0_part19_eq_skeleton, k0_part20_eq_skeleton, k0_part21_eq_skeleton, k0_part22_eq_skeleton, k0_part23_eq_skeleton]
  unfold k0_part17_skel k0_part18_skel k0_part19_skel k0_part20_skel k0_part21_skel k0_part22_skel k0_part23_skel
  simp only [Prog.lift, Prog.bind_op, Prog.bind_ret, Prog.pure_eq_ret]
  ihave H := (show iprop(ow m K c (owR c []) ∗ bigSepL [3, 4, 5, 6, 7, 8, 9] (rcvOf (F := F) c) ∗ bigSepL [3, 4, 5, 6, 7, 8, 9] (rowOf (F := F) c))
      ⊢ iprop(ow m K c 0 ∗ bigSepL [3, 4, 5, 6, 7, 8, 9] (rcvOf (F := F) c) ∗ bigSepL [3, 4, 5, 6, 7, 8, 9] (rowOf (F := F) c)) from BI.Entails.refl _) $$ [How HV Hrows]
  · isplitl [How]; · iexact How
    isplitl [HV] <;> iassumption
  have hf (p : Fin 10) (hp : 3 ≤ p.val) : ¬ (slot p c).val < 4 := fun h => absurd ((slot_lt p c).mp h) (by omega)
  iapply (step_blk m c K 3 (by decide) _ (off_f3 c) (fun e => slotM_f _ (hf 3 (by decide)) e _) (fun e => rsem_f _ (hf 3 (by decide)) _ e _) (fun _ => rfl)) $$ H; iintro ⟨H, Hb3⟩
  iapply (step_blk m c K 4 (by decide) _ (off_same c 0 _ rfl 4 rfl) (fun e => slotM_f _ (hf 4 (by decide)) e _) (fun e => rsem_f _ (hf 4 (by decide)) _ e _) (fun _ => rfl)) $$ H; iintro ⟨H, Hb4⟩
  iapply (step_blk m c K 5 (by decide) _ (off_other c 0 _ rfl 5 rfl) (fun e => slotM_f _ (hf 5 (by decide)) e _) (fun e => rsem_f _ (hf 5 (by decide)) _ e _) (fun _ => rfl)) $$ H; iintro ⟨H, Hb5⟩
  iapply (step_blk m c K 6 (by decide) _ (off_same c 1 _ rfl 6 rfl) (fun e => slotM_f _ (hf 6 (by decide)) e _) (fun e => rsem_f _ (hf 6 (by decide)) _ e _) (fun _ => rfl)) $$ H; iintro ⟨H, Hb6⟩
  iapply (step_blk m c K 7 (by decide) _ (off_other c 1 _ rfl 7 rfl) (fun e => slotM_f _ (hf 7 (by decide)) e _) (fun e => rsem_f _ (hf 7 (by decide)) _ e _) (fun _ => rfl)) $$ H; iintro ⟨H, Hb7⟩
  iapply (step_blk m c K 8 (by decide) _ (off_same c 2 _ rfl 8 rfl) (fun e => slotM_f _ (hf 8 (by decide)) e _) (fun e => rsem_f _ (hf 8 (by decide)) _ e _) (fun _ => rfl)) $$ H; iintro ⟨H, Hb8⟩
  iapply (step_blk m c K 9 (by decide) _ (off_other c 2 _ rfl 9 rfl) (fun e => slotM_f _ (hf 9 (by decide)) e _) (fun e => rsem_f _ (hf 9 (by decide)) _ e _) (fun _ => rfl)) $$ H
  iintro ⟨⟨How, -, -⟩, Hb9⟩
  -- the ten waits for the sends
  ihave HaS := (show bigSepL (List.finRange 10) (fun p => (atPos ER (sndCell p c) 0 ∅ 0 : sProp 𝕄)) ⊢ (iprop(atPos ER (sndCell 0 c) 0 ∅ 0 ∗ atPos ER (sndCell 1 c) 0 ∅ 0
      ∗ atPos ER (sndCell 2 c) 0 ∅ 0 ∗ atPos ER (sndCell 3 c) 0 ∅ 0 ∗ atPos ER (sndCell 4 c) 0 ∅ 0 ∗ atPos ER (sndCell 5 c) 0 ∅ 0 ∗ atPos ER (sndCell 6 c) 0 ∅ 0
      ∗ atPos ER (sndCell 7 c) 0 ∅ 0 ∗ atPos ER (sndCell 8 c) 0 ∅ 0 ∗ atPos ER (sndCell 9 c) 0 ∅ 0 ∗ bigSepL [] (fun p => (atPos ER (sndCell p c) 0 ∅ 0 : sProp 𝕄))) : sProp 𝕄) from by rw [finRange_10]; simp only [bigSepL_cons']; exact Entails.of_eq rfl) $$ HaS
  icases HaS with ⟨Ha0, Ha1, Ha2, Ha3, Ha4, Ha5, Ha6, Ha7, Ha8, Ha9, -⟩
  iapply (step_snt m K c 0 (mine 0 c) (slotM_y _ hm0 o4 _) (ssem_y 0 (by decide) _)) $$ [How HcS0 Ha0]
  · isplitl [How]; · iexact How
    unfold sntOf; isplitl [HcS0] <;> iassumption
  iintro ⟨How, Hp0, HzS0⟩
  iapply (step_snt m K c 1 (mine 0 c) (slotM_y _ hm0 o4 _) (ssem_y 1 (by decide) _)) $$ [How HcS1 Ha1]
  · isplitl [How]; · iexact How
    unfold sntOf; isplitl [HcS1] <;> iassumption
  iintro ⟨How, Hp1, HzS1⟩
  iapply (step_snt m K c 2 (mine 0 c) (slotM_y _ hm0 o4 _) (ssem_y 2 (by decide) _)) $$ [How HcS2 Ha2]
  · isplitl [How]; · iexact How
    unfold sntOf; isplitl [HcS2] <;> iassumption
  iintro ⟨How, Hp2, HzS2⟩
  iapply (step_snt m K c 3 (mine 9 c) (slotM_f _ hm9 o9 _) (ssem_f 3 (by decide) _)) $$ [How HcS3 Ha3]
  · isplitl [How]; · iexact How
    unfold sntOf; isplitl [HcS3] <;> iassumption
  iintro ⟨How, Hp3, HzS3⟩
  iapply (step_snt m K c 4 (mine 9 c) (slotM_f _ hm9 o9 _) (ssem_f 4 (by decide) _)) $$ [How HcS4 Ha4]
  · isplitl [How]; · iexact How
    unfold sntOf; isplitl [HcS4] <;> iassumption
  iintro ⟨How, Hp4, HzS4⟩
  iapply (step_snt m K c 5 (mine 9 c) (slotM_f _ hm9 o9 _) (ssem_f 5 (by decide) _)) $$ [How HcS5 Ha5]
  · isplitl [How]; · iexact How
    unfold sntOf; isplitl [HcS5] <;> iassumption
  iintro ⟨How, Hp5, HzS5⟩
  iapply (step_snt m K c 6 (mine 9 c) (slotM_f _ hm9 o9 _) (ssem_f 6 (by decide) _)) $$ [How HcS6 Ha6]
  · isplitl [How]; · iexact How
    unfold sntOf; isplitl [HcS6] <;> iassumption
  iintro ⟨How, Hp6, HzS6⟩
  iapply (step_snt m K c 7 (mine 9 c) (slotM_f _ hm9 o9 _) (ssem_f 7 (by decide) _)) $$ [How HcS7 Ha7]
  · isplitl [How]; · iexact How
    unfold sntOf; isplitl [HcS7] <;> iassumption
  iintro ⟨How, Hp7, HzS7⟩
  iapply (step_snt m K c 8 (mine 9 c) (slotM_f _ hm9 o9 _) (ssem_f 8 (by decide) _)) $$ [How HcS8 Ha8]
  · isplitl [How]; · iexact How
    unfold sntOf; isplitl [HcS8] <;> iassumption
  iintro ⟨How, Hp8, HzS8⟩
  iapply (step_snt m K c 9 (mine 9 c) (slotM_f _ hm9 o9 _) (ssem_f 9 (by decide) _)) $$ [How HcS9 Ha9]
  · isplitl [How]; · iexact How
    unfold sntOf; isplitl [HcS9] <;> iassumption
  iintro ⟨How, Hp9, HzS9⟩
  -- the unused cells
  icases (rec_rcv m K (mine 0 c) c) $$ HR with ⟨#HI0, -⟩
  imod (close_cell m (rcvCell (mine 0 c) c) _ 0 (fun r _ => duties_own m c 0 r)) $$ [HaM0] with HzM0
  · isplitr; · iexact HI0
    iexact HaM0
  icases (rec_rcv m K (mine 9 c) c) $$ HR with ⟨#HI9, -⟩
  imod (close_cell m (rcvCell (mine 9 c) c) _ 0 (fun r _ => duties_own m c 9 r)) $$ [HaM9] with HzM9
  · isplitr; · iexact HI9
    iexact HaM9
  rw [wp_ret]; imodintro
  -- the loans come back
  icases (show ySt m c ⊢ (iprop(owns (c : Thread nD τ) (slotM (mine 0 c)) (keep 3) (val m (mine 0 c) c) ∗ owns (c : Thread nD τ) (slotM (slot 0 c)) fullShare (val m (slot 0 c) c)
      ∗ owns (c : Thread nD τ) (slotM (slot 1 c)) fullShare (val m (slot 1 c) c) ∗ owns (c : Thread nD τ) (slotM (slot 2 c)) fullShare (val m (slot 2 c) c)) : sProp 𝕄)
      from BI.Entails.refl _) $$ HY with ⟨Hm0, Hs0, Hs1, Hs2⟩
  ihave Hm0 := (regain m c 2 2 (mine 0 c) rfl rfl) $$ [Hp2 Hm0]
  · isplitl [Hp2] <;> iassumption
  ihave Hm0 := (regain m c 1 1 (mine 0 c) rfl rfl) $$ [Hp1 Hm0]
  · isplitl [Hp1] <;> iassumption
  ihave Hm0 := (regain m c 0 0 (mine 0 c) rfl rfl) $$ [Hp0 Hm0]
  · isplitl [Hp0] <;> iassumption
  ihave Hm9 := (regain m c 9 6 (mine 9 c) rfl rfl) $$ [Hp9 Hm9]
  · isplitl [Hp9] <;> iassumption
  ihave Hm9 := (regain m c 8 5 (mine 9 c) rfl rfl) $$ [Hp8 Hm9]
  · isplitl [Hp8] <;> iassumption
  ihave Hm9 := (regain m c 7 4 (mine 9 c) rfl rfl) $$ [Hp7 Hm9]
  · isplitl [Hp7] <;> iassumption
  ihave Hm9 := (regain m c 6 3 (mine 9 c) rfl rfl) $$ [Hp6 Hm9]
  · isplitl [Hp6] <;> iassumption
  ihave Hm9 := (regain m c 5 2 (mine 9 c) rfl rfl) $$ [Hp5 Hm9]
  · isplitl [Hp5] <;> iassumption
  ihave Hm9 := (regain m c 4 1 (mine 9 c) rfl rfl) $$ [Hp4 Hm9]
  · isplitl [Hp4] <;> iassumption
  ihave Hm9 := (regain m c 3 0 (mine 9 c) rfl rfl) $$ [Hp3 Hm9]
  · isplitl [Hp3] <;> iassumption
  -- the blocks make the result
  ihave Hb := (blocks_out m c) $$ [Hb3 Hb4 Hb5 Hb6 Hb7 Hb8 Hb9 Ho]
  · isplitr [Ho]
    · simp only [bigSepL_cons']
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      iempintro
    · iexact Ho
  icases Hb with ⟨⟨Hbs, Hbz⟩, Ho⟩
  icases (show ow m K c 0 ⊢ (iprop((records m K ∗ levAts L lv) ∗ ∃ W, owes (c : Thread nD τ) 0 W) : sProp 𝕄) from BI.Entails.refl _) $$ How with ⟨-, %W', HO⟩
  iapply Hk
  unfold bodyPost Φ₁ Dat.owesAt Pipeline.owesWithin
  rw [show (dats m ρ 0 c).owed t0_0.succ = 0 from rfl]
  isplitr [HO Hx He Ho]
  · isplitl [Hbs Hs0 Hs1 Hs2 Hm0 Hm9]
    · iapply (bufs_join c)
      isplitl [Hbs Hs0 Hs1 Hs2]
      · rw [finRange_10]; simp only [bigSepL_cons']
        isplitl [Hs0]; · iexists _; iexact Hs0
        isplitl [Hs1]; · iexists _; iexact Hs1
        isplitl [Hs2]; · iexists _; iexact Hs2
        iexact Hbs
      isplitl [Hm0]; · iexists _; iexact Hm0
      iexists _; iexact Hm9
    · iapply (Entails.of_eq (cells_eq (fun s => (semVal ((c : Thread nD τ), s) 0 : sProp 𝕄))).symm)
      isplitl [HzB]; · iexact HzB
      isplitr [Hbz HzR0 HzR1 HzR2 HzM0 HzM9]
      · rw [finRange_10]; simp only [bigSepL_cons']
        isplitl [HzS0]; · iexact HzS0
        isplitl [HzS1]; · iexact HzS1
        isplitl [HzS2]; · iexact HzS2
        isplitl [HzS3]; · iexact HzS3
        isplitl [HzS4]; · iexact HzS4
        isplitl [HzS5]; · iexact HzS5
        isplitl [HzS6]; · iexact HzS6
        isplitl [HzS7]; · iexact HzS7
        isplitl [HzS8]; · iexact HzS8
        isplitl [HzS9]; · iexact HzS9
        iempintro
      · iapply (Entails.of_eq (slots_eq c (fun q => (semVal (rcvCell q c) 0 : sProp 𝕄))).symm)
        isplitr [HzM0 HzM9]
        · rw [finRange_10]; simp only [bigSepL_cons']
          isplitl [HzR0]; · iexact HzR0
          isplitl [HzR1]; · iexact HzR1
          isplitl [HzR2]; · iexact HzR2
          iexact Hbz
        · isplitl [HzM0] <;> iassumption
  isplitl [HO]
  · iexists W'
    isplitr; · ipureintro; exact fun _ _ => Or.inl trivial
    iexact HO
  isplitl [Hx]
  · iexists _; isplitr; · (ipureintro; rfl)
    iexact Hx
  isplitl [He]
  · iexists _; isplitr; · (ipureintro; rfl)
    iexact He
  · iexists _; isplitr; · (ipureintro; rfl)
    iexact Ho

set_option maxRecDepth 4000 in
/-- The library's obligation for the body, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  iintro H
  iapply (sound_body m ρ c fun _ => bodyPost m ρ c)
  isplitl [H]; · iexact H
  iintro H; iexact H

end Cert.KProof

end
-- ==== Proof.Launch.lean ====
/-
The launch: the tokens minted for each device's cells and dealt to the devices that pay them, the credit the devices owe
one another, and the run of the whole program on the mesh.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open PCS
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide +kernel
theorem share_eq (c : Dev nD) (w : Fin cfg0.W) : (dats m ρ 0 c).share w = fullShare := by unfold Dat.share; split <;> rfl

theorem kcell_inj : Function.Injective (kcell : Dev nD × Fin 23 → GSem nD τ sig) := by
  rintro ⟨c, k⟩ ⟨c', k'⟩ h
  have hc : c = c' := congrArg (fun g : GSem nD τ sig => g.1.1) h
  have hk : k = k' := csem_inj (congrArg Prod.snd h)
  rw [hc, hk]
def allCells : Finset (GSem nD τ sig) := Finset.univ.map ⟨kcell, kcell_inj⟩

/-- The duties of device `d`'s cells: its barrier's ten, one of each receive cell of a peer's slot, one of each send cell. -/
def tokSem (d : Dev nD) : Fin 3 → Fin 10 → SemLoc sig × Fin 10
  | 0, p => (.reg barS, p)
  | 1, p => (.dma (rsem (slot p d)), 0)
  | 2, p => (.dma (ssem p), 0)
abbrev tokOf (x : Dev nD × Fin 3 × Fin 10) : GSem nD τ sig × ℕ × Fin 10 := (((x.1 : Thread nD τ), (tokSem x.1 x.2.1 x.2.2).1), 0, (tokSem x.1 x.2.1 x.2.2).2)
theorem tokSem_inj (d : Dev nD) (k k' : Fin 3) (p p' : Fin 10) (h : tokSem d k p = tokSem d k' p') : k = k' ∧ p = p' := by
  revert h; revert d k k' p p'; decide +kernel
theorem tokOf_inj : Function.Injective tokOf := by
  rintro ⟨d, k, p⟩ ⟨d', k', p'⟩ h
  have hd : d = d' := congrArg (fun x : GSem nD τ sig × ℕ × Fin 10 => x.1.1.1) h
  subst hd
  obtain ⟨hk, hp⟩ := tokSem_inj d k k' p p' (Prod.ext (congrArg (fun x : GSem nD τ sig × ℕ × Fin 10 => x.1.2) h) (congrArg (fun x : GSem nD τ sig × ℕ × Fin 10 => x.2.2) h))
  rw [hk, hp]
def allToks : Finset (GSem nD τ sig × ℕ × Fin 10) := Finset.univ.map ⟨tokOf, tokOf_inj⟩

def u₀ : UU := (initOf (Pipeline.cells cfgs cellOf_inj) (Pipeline.launchToks cfgs cellOf_inj), initOf allCells allToks)

/-- The tokens of the duties of device `d`'s own cells. -/
def toks (d : Dev nD) : sProp 𝕄 :=
  iprop((bigSep Finset.univ fun p : Fin 10 => dutyTok ER (barCell d) 0 p) ∗ (bigSep Finset.univ fun p : Fin 10 => dutyTok ER (rcvCell (slot p d) d) 0 0)
    ∗ bigSep Finset.univ fun p : Fin 10 => dutyTok ER (sndCell p d) 0 0)
/-- The tokens of the duties device `d` pays: to its peers' barriers and receive cells, and to its own send cells. -/
def payToks (d : Dev nD) : sProp 𝕄 :=
  iprop((bigSep Finset.univ fun p : Fin 10 => dutyTok ER (barCell (peer p d)) 0 (inv p)) ∗ (bigSep Finset.univ fun p : Fin 10 => dutyTok ER (rcvCell (mine p d) (peer p d)) 0 0)
    ∗ bigSep Finset.univ fun p : Fin 10 => dutyTok ER (sndCell p d) 0 0)

/-- What the launch deals device `d`, -/
def G (d : Dev nD) : sProp 𝕄 :=
  iprop((bigSep Finset.univ fun k : Fin 23 => roundState ER (kRd m) (kcell (d, k)) 0)
    ∗ (bigSep Finset.univ fun k : Fin 23 => iprop(atPos ER (kcell (d, k)) 0 ∅ 0 ∗ reached ER (kcell (d, k)) 0)) ∗ toks (F := F) d)
/-- and what it has once the invariants stand. -/
def G' (d : Dev nD) : sProp 𝕄 := iprop(∃ K, ghost m d K)

theorem fund_all : BI.own (ER (initOf allCells allToks)) ⊢ (|==> bigSep Finset.univ (G m) : sProp 𝕄) := by
  have hX (Φ : GSem nD τ sig → sProp 𝕄) : bigSep allCells Φ = bigSep Finset.univ fun d : Dev nD => bigSep Finset.univ fun k : Fin 23 => Φ (kcell (d, k)) := by
    unfold allCells; rw [bigSep_map, bigSep_univ_prod]; rfl
  have hT : bigSep allToks (fun x => (dutyTok ER x.1 x.2.1 x.2.2 : sProp 𝕄)) = bigSep Finset.univ fun d : Dev nD => toks d := by
    unfold allToks; rw [bigSep_map, bigSep_univ_prod]
    refine bigSep_congr fun d _ => ?_
    unfold toks
    rw [bigSep_univ_prod, bigSep_univ_eq_bigSepL [0, 1, 2] (by decide) (by decide)]; rfl
  iintro H
  imod (Rounds.fund ER (kRd m) allCells allToks) $$ H with ⟨Hst, Hr, Hat, Htok⟩
  imodintro
  ihave Hst := (Entails.of_eq (hX fun g => roundState ER (kRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

theorem unscopedSems0_eq (c : Dev nD) : (unscopedSems0 c : sProp 𝕄) = semVal (barCell c) 0 := by
  unfold unscopedSems0; rw [bigSep_eq_bigSepL_of_eq [SemLoc.reg barS] (by decide +kernel) (by decide)]; rfl
/-- The kernel's own semaphores and the barrier are the cells. -/
theorem sems_eq (c : Dev nD) : (bigSep Finset.univ fun k : Fin 23 => (semVal (kcell (c, k)) 0 : sProp 𝕄))
    = iprop(unscopedSems0 c ∗ Pipeline.ownSems0 (Ix := Unit) (Name := ℕ) (U := UU) (Lvl := ℕ) (Val := Elt F) (τ := τ) osem c) := by
  have h : (Finset.univ : Finset (Fin 23)) = (kB :: (List.finRange 22).map Fin.castSucc).toFinset ∧ (kB :: (List.finRange 22).map Fin.castSucc).Nodup := by decide +kernel
  have hs : ∀ i : Fin 22, csem i.castSucc = osem i := by decide +kernel
  rw [unscopedSems0_eq, Pipeline.ownSems0_eq_of_list c osem (List.finRange 22) (by decide +kernel) (by decide +kernel),
    bigSep_univ_eq_bigSepL _ h.1 h.2, bigSepL_cons', bigSepL_map]
  unfold kcell; simp only [csem_kB, hs]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (kRd m) κ (kcell (c, k))))
          ∗ (bigSep Finset.univ fun k => iprop(atPos ER (kcell (c, k)) 0 ∅ 0 ∗ reached ER (kcell (c, k)) 0)) ∗ toks (F := F) c) := by
  have halloc : iprop((bigSep Finset.univ fun k : Fin 23 => semVal (kcell (c, k)) 0) ∗ bigSep Finset.univ fun k : Fin 23 => roundState ER (kRd m) (kcell (c, k)) 0)
      ⊢ (|={Set.univ}=> bigSep Finset.univ fun k => iprop(∃ κ : ℕ, cellInv ER (kRd m) κ (kcell (c, k))) : sProp 𝕄) := by
    rw [← bigSep_sep']
    exact (bigSep_mono fun k _ => (Rounds.body_intro ER (kRd m) (kcell (c, k))).trans inv_alloc).trans (bigSep_fupd _ _)
  unfold G
  iintro ⟨Ho, Hu, Hst, Hat, Htok⟩
  ihave Hv := (Entails.of_eq (sems_eq (F := F) c).symm) $$ [Ho Hu]
  · isplitl [Hu] <;> iassumption
  imod halloc $$ [Hv Hst] with Hinv
  · isplitl [Hv] <;> iassumption
  imodintro
  isplitl [Hinv]; · iexact Hinv
  isplitl [Hat]; · iexact Hat
  iexact Htok

/-! ## Dealing the tokens -/

/-- The step from device `d`, across to its peer `p`, seen from there. -/
def across : Dev nD × Fin 10 ≃ Dev nD × Fin 10 where
  toFun x := (peer x.2 x.1, inv x.2)
  invFun x := (peer x.2 x.1, inv x.2)
  left_inv x := Prod.ext (peer_inv x.2 x.1) (inv_inv x.2)
  right_inv x := Prod.ext (peer_inv x.2 x.1) (inv_inv x.2)

/-- A family over the devices and their peers, counted from the other end. -/
theorem bigSep_across (Φ : Dev nD → Fin 10 → sProp 𝕄) : (bigSep Finset.univ fun d : Dev nD => bigSep Finset.univ fun p : Fin 10 => Φ d p)
    = bigSep Finset.univ fun d : Dev nD => bigSep Finset.univ fun p : Fin 10 => Φ (peer p d) (inv p) := by
  rw [← bigSep_univ_prod (fun x : Dev nD × Fin 10 => Φ x.1 x.2), bigSep_univ_equiv across, bigSep_univ_prod]; rfl

theorem toks_deal : (bigSep Finset.univ fun d : Dev nD => (toks d : sProp 𝕄)) = bigSep Finset.univ fun d : Dev nD => payToks d := by
  unfold toks payToks
  rw [bigSep_sep', bigSep_sep', bigSep_sep', bigSep_sep', bigSep_across (fun d p => (dutyTok ER (barCell d) 0 p : sProp 𝕄)),
    bigSep_across (fun d p => (dutyTok ER (rcvCell (slot p d) d) 0 0 : sProp 𝕄))]
  simp only [slot_inv_peer]

theorem bigSep_fin10 (Φ : Fin 10 → sProp 𝕄) : bigSep Finset.univ Φ = bigSepL (List.finRange 10) Φ :=
  bigSep_univ_eq_bigSepL _ (by decide) (by decide) Φ

theorem ghost_intro (K : Dev nD × Fin 23 → ℕ) (c : Dev nD) :
    iprop(records m K ∗ ((bigSep Finset.univ fun k : Fin 23 => atPos ER (kcell (c, k)) 0 ∅ 0) ∗ payToks c)) ⊢ G' m c := by
  unfold payToks G' ghost
  rw [bigSep_fin10, bigSep_fin10, bigSep_fin10]
  iintro ⟨HR, Hat, HB, HV, HS⟩
  iexists K
  isplitl [HR]; · iexact HR
  isplitl [Hat]; · iexact Hat
  isplitl [HB]; · iexact HB
  iapply (bigSepL_zip (List.finRange 10) (fun p => (dutyTok ER (rcvCell (mine p c) (peer p c)) 0 0 : sProp 𝕄)) (fun p => dutyTok ER (sndCell p c) 0 0))
  isplitl [HV] <;> iassumption

theorem share_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem regroup :
    (bigSep Finset.univ fun c : Dev nD => iprop((bigSep Finset.univ fun k => iprop(∃ κ : ℕ, cellInv ER (kRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', toks_deal, ← bigSep_univ_prod (fun ck : Dev nD × Fin 23 => iprop(∃ κ : ℕ, cellInv ER (kRd m) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄))]
  iintro ⟨HI, ⟨Hat, #HR⟩, Htok⟩
  icases (BI.bigSep_exists_pi Finset.univ (fun (ck : Dev nD × Fin 23) (κ : ℕ) => (cellInv ER (kRd m) κ (kcell ck) : sProp 𝕄))) $$ HI with ⟨%K, #HI⟩
  iapply (share_records (R := records m K) fun c _ => ghost_intro m K c)
  isplitr
  · unfold records; isplitl; · iexact HI
    iexact HR
  · iapply (Entails.of_eq (bigSep_sep' Finset.univ (fun c : Dev nD => bigSep Finset.univ fun k : Fin 23 => (atPos ER (kcell (c, k)) 0 ∅ 0 : sProp 𝕄)) payToks).symm)
    isplitl [Hat] <;> iassumption

/-- All devices' semaphores at once become their cells' invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What device `d` owes for its copies on a cell: a block for each peer whose receive cell it is. -/
theorem owR_val (d : Dev nD) (l : List (Fin 10)) (g : GSem nD τ sig) :
    owR d l g () = N * (l.map fun p => if g = rcvCell (mine p d) (peer p d) then 1 else 0).sum := by
  induction l with
  | nil => rfl
  | cons p l ih =>
    unfold owR
    rw [Pi.add_apply, Finsupp.add_apply, tallyAt_apply, ih, List.map_cons, List.sum_cons, Nat.mul_add, Nat.add_comm]
    congr 1
    by_cases h : g = rcvCell (mine p d) (peer p d)
    · rw [if_pos ⟨h, rfl⟩, if_pos h, Nat.mul_one]
    · rw [if_neg (fun e => h e.1), if_neg h, Nat.mul_zero]
/-- With its signals, a unit more for each peer whose barrier it is. -/
theorem owS_val (d : Dev nD) (l : List (Fin 10)) (g : GSem nD τ sig) :
    owS d l g () = (l.map fun p => if g = barCell (peer p d) then 1 else 0).sum + owR d (List.finRange 10) g () := by
  induction l with
  | nil => exact (Nat.zero_add _).symm
  | cons p l ih =>
    unfold owS
    rw [Pi.add_apply, Finsupp.add_apply, tallyAt_apply, ih, List.map_cons, List.sum_cons, Nat.add_comm, Nat.add_assoc]
    congr 1
    by_cases h : g = barCell (peer p d)
    · rw [if_pos ⟨h, rfl⟩, if_pos h]
    · rw [if_neg (fun e => h e.1), if_neg h]

theorem bar_eq_iff (a b : Dev nD) : barCell a = barCell b ↔ a = b :=
  ⟨fun h => congrArg (fun g : GSem nD τ sig => g.1.1) h, fun h => h ▸ rfl⟩
theorem rcv_eq_iff (q q' : Fin 12) (a b : Dev nD) : rcvCell q a = rcvCell q' b ↔ a = b ∧ q = q' :=
  ⟨fun h => ⟨congrArg (fun g : GSem nD τ sig => g.1.1) h, rsem_inj (SemLoc.dma.inj (congrArg Prod.snd h))⟩, fun h => by rw [h.1, h.2]⟩
theorem bar_ne_rcv (q : Fin 12) (a b : Dev nD) : barCell a ≠ rcvCell q b := fun h => by have h' := congrArg Prod.snd h; cases h'

/-- Ten signals reach each barrier, -/
theorem count_bar (c : Dev nD) : ∑ d : Dev nD, ((List.finRange 10).map fun p => if c = peer p d then 1 else 0).sum = 10 := by
  revert c; decide +kernel
/-- and one copy each receive cell of a peer's slot. -/
theorem count_rcv (c : Dev nD) (p : Fin 10) :
    ∑ d : Dev nD, ((List.finRange 10).map fun p' => if c = peer p' d ∧ slot p c = mine p' d then 1 else 0).sum = 1 := by
  revert c p; decide +kernel

theorem sum_zero_map (l : List (Fin 10)) : (l.map fun _ => 0).sum = 0 := by
  induction l with
  | nil => rfl
  | cons _ l ih => rw [List.map_cons, List.sum_cons, ih]

theorem launch_bar (c : Dev nD) : tallyOn (barCell c) (launchCredit (Pipeline.owing O₀) 0 (barCell c)) = (tallyAt (barCell c) () 10 : CellTallies nD τ sig Unit) := by
  unfold tallyAt; refine congrArg _ (Finsupp.ext fun u => ?_); cases u
  rw [Pipeline.launchCredit_owing, Finsupp.single_eq_same]
  refine Eq.trans (Finset.sum_congr rfl fun d _ => ?_) (count_bar c)
  unfold O₀
  rw [owS_val, owR_val]
  simp only [bar_eq_iff, if_neg (bar_ne_rcv _ _ _), sum_zero_map, Nat.mul_zero, Nat.add_zero]
theorem launch_rcv (c : Dev nD) (p : Fin 10) :
    tallyOn (rcvCell (slot p c) c) (launchCredit (Pipeline.owing O₀) 0 (rcvCell (slot p c) c)) = (tallyAt (rcvCell (slot p c) c) () N : CellTallies nD τ sig Unit) := by
  unfold tallyAt; refine congrArg _ (Finsupp.ext fun u => ?_); cases u
  rw [Pipeline.launchCredit_owing, Finsupp.single_eq_same]
  refine Eq.trans (Finset.sum_congr rfl fun d _ => ?_) ((Finset.mul_sum _ _ N).symm.trans (by rw [count_rcv c p, Nat.mul_one]))
  unfold O₀
  rw [owS_val, owR_val]
  simp only [rcv_eq_iff, if_neg (fun h => bar_ne_rcv _ _ _ (Eq.symm h)), sum_zero_map, Nat.zero_add]

theorem bigSep_list {I : Type} [Fintype I] [DecidableEq I] (l : List I) (hl : l.Nodup) (Φ : I → sProp 𝕄) : bigSep Finset.univ Φ ⊢ bigSepL l Φ :=
  (BI.bigSep_subset (Finset.subset_univ l.toFinset)).trans (Entails.of_eq (bigSep_eq_bigSepL l hl Φ))
/-- Of a family over a core's semaphores, the barrier's member and those of the peers' receive cells. -/
theorem sems_pick (c : Dev nD) (Φ : SemLoc sig → sProp 𝕄) : bigSep Finset.univ Φ ⊢ iprop(Φ (.reg barS) ∗ bigSepL (List.finRange 10) fun p => Φ (.dma (rsem (slot p c)))) := by
  have hnd : (SemLoc.reg barS :: (List.finRange 10).map fun p => (SemLoc.dma (rsem (slot p c)) : SemLoc sig)).Nodup := by
    refine List.nodup_cons.mpr ⟨fun h => ?_, (List.nodup_finRange 10).map fun p p' h => slot_inj c (rsem_inj (SemLoc.dma.inj h))⟩
    obtain ⟨p, -, h⟩ := List.mem_map.mp h
    cases h
  refine (bigSep_list _ hnd Φ).trans (Entails.of_eq ?_)
  rw [bigSepL_cons', bigSepL_map]
theorem creds (c : Dev nD) : (Pipeline.launchCred O₀ c : sProp 𝕄)
    ⊢ iprop(cred (tallyAt (barCell c) () 10) ∗ bigSepL (List.finRange 10) fun p => cred (tallyAt (rcvCell (slot p c) c) () N)) := by
  unfold Pipeline.launchCred
  refine (sems_pick c _).trans ?_
  rw [launch_bar]
  exact sep_mono_right (bigSepL_mono fun p _ => Entails.of_eq (congrArg cred (launch_rcv c p)))

/-! ## The sides of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  icases (creds (F := F) c) $$ Hcr with ⟨H1, HN⟩
  imodintro
  unfold start G'
  isplitl
  · isplitl [HG]; · iexact HG
    isplitl [H1]; · iexact H1
    isplitl [HN] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution of the program on the mesh, from any memory with all counters at zero, ends, with each device's arrays at
    the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      icases (ownU_pair _ _) $$ Hu with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof
-- ==== Proof.Value.lean ====
/-
What the kernel computes, read over the reals. The rows of one plane position times a block of the table: each id picks
one row of the block if the block holds it, and nothing otherwise. Summed over the four blocks, each id in range picks
exactly the row of the whole table it names.
-/
module

public import proofs.«01_k».proof.Proof.Launch
public import Idealize.ShloMosaic.Lib.MatmulPlain
public import Idealize.ShloMosaic.Lib.ValueIdx
public import Idealize.ShloMosaic.Lib.Routing.Ops
public import Idealize.ShloMosaic.Lib.WordCmp
public import Idealize.ShloMosaic.Lib.Pointwise.ElementwiseCore
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.Sem
open Idealize.ShloMosaic.ValueIdx

/-! ## The arrays after the run -/

section Arrays

variable {F : FTy → Type} [FloatOps F] (m : (ℓ : Loc nD τ sig) → Buf (Elt F) ℓ) (ρ : Dev nD → PrngReg) (c : Dev nD)

/-- The ids and the table's block end as they were, -/
theorem finalA_ids : finalA m ρ c (0 : Fin 3) = m ((c : Thread nD τ).loc main_arg0) := (dats (F := F) m ρ 0 c).arrAt_in (0 : Fin 3) rfl _
theorem finalA_tab : finalA m ρ c (1 : Fin 3) = m ((c : Thread nD τ).loc main_arg1) := (dats (F := F) m ρ 0 c).arrAt_in (1 : Fin 3) rfl _

/-- A window over a whole array reads the array: the ids', -/
theorem xids_eq : xids m c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
/-- the table's, -/
theorem xtab_eq : xtab m c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
/-- and the result's, which ends at the kernel's result. -/
theorem finalA_out : finalA m ρ c (2 : Fin 3) = outAt m c := by
  have h : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt F) main_v1 (off := fun a => win0_2.index (0 : Fin 1) a * main_v1.ty.shape.size a)
    (funext fun a => by fin_cases a <;> decide) (fun a => by fin_cases a <;> decide) _).symm

set_option backward.proofsInPublic true in
/-- Row `r` of plane position `s` among the 512 rows. -/
def row (s : Fin 8) (r : Fin 64) : Fin 512 := ⟨64 * s.val + r.val, by omega⟩

/-- The rows of a device's plane position begin at 64 times the position. -/
theorem off1_eq (c : Dev nD) : k0_off1 c = ![64 * (sOf c).val, 0] := by revert c; decide +kernel

/-- The ids a device's product reads. -/
theorem rowIds_apply (r : Fin 64) : rowIds m c (ix2 r (0 : Fin 1)) = m ((c : Thread nD τ).loc main_arg0) (ix2 (row (sOf c) r) (0 : Fin 1)) := by
  rw [← xids_eq m c]
  show xids m c _ = xids m c _
  refine congrArg (xids m c) (funext fun a => Fin.ext ?_)
  have h := off1_eq c
  match a with
  | ⟨0, _⟩ =>
    show k0_off1 c 0 + 1 * r.val = 64 * (sOf c).val + r.val
    rw [h]; show 64 * (sOf c).val + 1 * r.val = _; omega
  | ⟨1, _⟩ =>
    show k0_off1 c 1 + 1 * 0 = 0
    rw [h]; rfl

/-- The word the kernel computes its `y` coordinate as. -/
theorem yword (c : Dev nD) : Scalar.remsi (Scalar.divsi (Dev.word c) 4#32) 4#32 = BitVec.ofNat 32 (yOf c).val := by revert c; decide +kernel

end Arrays

/-! ## One product over the reals -/

section Product

/-- The float of a one-bit word, widened: one if it is set, zero if not. -/
theorem ofBit (b : Bool) : (FloatOps.sitofp (F := Ideal) .f32 ((BitVec.ofBool b).setWidth 32) : EReal) = if b then 1 else 0 := by
  cases b
  · show (((0 : ℤ) : ℝ) : EReal) = 0; simp
  · show (((1 : ℤ) : ℝ) : EReal) = 1; simp

/-- Row `k` of block `y` is the row an id names exactly if it is row `4096 y + k` of the whole table. -/
theorem pick_iff (v : BitVec 32) (hv : v.toNat < 16384) (y : Fin 4) (k : Fin 4096) :
    BitVec.ofNat 32 k.val = IntOp.subi v (Scalar.muli (BitVec.ofNat 32 y.val) 4096#32) ↔ v.toNat = 4096 * y.val + k.val := by
  have hk := k.isLt
  have hy := y.isLt
  have hm : Scalar.muli (BitVec.ofNat 32 y.val) 4096#32 = BitVec.ofNat 32 (4096 * y.val) := by
    revert y; decide
  rw [hm, ← BitVec.toNat_inj, show IntOp.subi v (BitVec.ofNat 32 (4096 * y.val)) = v - BitVec.ofNat 32 (4096 * y.val) from rfl, BitVec.toNat_sub,
    BitVec.toNat_ofNat, BitVec.toNat_ofNat]
  omega

/-- Row `r` of the product of the ids' picks with block `y` of the table: the sum over the block's rows of the row, taken
    where the id names it. -/
theorem pay_apply (y : Fin 4) (v : S64x1.Idx → Elt Ideal .i32) (E : S4096x512.Idx → Elt Ideal .bf16) (r : Fin 64) (e : Fin 512)
    (hv : (show BitVec 32 from v (ix2 r (0 : Fin 1))).toNat < 16384) :
    shapeCast S64x512 (k0_pay1 (F := Ideal) (BitVec.ofNat 32 y.val) v E) shapeCasts_S1x64x512_S64x512 (ix2 r e)
      = ∑ k : Fin 4096, if (show BitVec 32 from v (ix2 r (0 : Fin 1))).toNat = 4096 * y.val + k.val then (E (ix2 k e) : EReal) else 0 := by
  unfold k0_pay1
  dsimp only
  rw [shapeCast_shapeCast, shapeCast_self, truncf_apply, shapeCast_self]
  unfold matmul
  rw [show dot_S64x4096_S4096x512_S64x512_1_0_0_1_n_n = DotDims.plain 64 4096 512 from rfl, Ideal.matmul_plain_apply]
  rw [show (constant S64x512 .f32 0x00000000#32 : FVec Ideal S64x512 .f32) (ix2 r e) = (0 : EReal) from Ideal.ofBits_zero_f32, zero_add]
  refine Finset.sum_congr rfl fun k _ => ?_
  have hb : broadcastTo S64x4096 (subi (show IVec S64x1 32 from v) (broadcast S64x1 (Scalar.muli (BitVec.ofNat 32 y.val) 4096#32))) broadcasts_S64x1_S64x4096 (ix2 r k)
      = IntOp.subi (v (ix2 r (0 : Fin 1))) (Scalar.muli (BitVec.ofNat 32 y.val) 4096#32) :=
    broadcastTo_apply _ _ _ (ix2 r (0 : Fin 1)) fun a => by
      match a with
      | ⟨0, _⟩ => rfl
      | ⟨1, _⟩ => rfl
  have hi : iota Kind.tc S64x4096 32 [1] iota_S64x4096_d1_w32 (ix2 r k) = BitVec.ofNat 32 k.val := by
    rw [WordCmp.iota_at]
    show BitVec.ofNat 32 (0 * 4096 + k.val) = _
    rw [Nat.zero_mul, Nat.zero_add]
  rw [sitofp_apply, extui_apply, cmpi_apply]
  rw [hi, hb, show IntOp.cmpi .eq (BitVec.ofNat 32 k.val) (IntOp.subi (v (ix2 r (0 : Fin 1))) (Scalar.muli (BitVec.ofNat 32 y.val) 4096#32))
    = BitVec.ofBool (BitVec.ofNat 32 k.val == IntOp.subi (v (ix2 r (0 : Fin 1))) (Scalar.muli (BitVec.ofNat 32 y.val) 4096#32)) from rfl, ofBit]
  simp only [beq_iff_eq, pick_iff _ hv y k, ite_mul, one_mul, zero_mul]

/-- Of one block's rows, the sum takes the row numbered `v` of the whole table, if the block holds it. -/
theorem sum_pick (f : Fin 16384 → EReal) (v : Fin 16384) (y : Fin 4) (g : Fin 4096 → EReal)
    (hg : ∀ (k : Fin 4096) (h : 4096 * y.val + k.val < 16384), g k = f ⟨4096 * y.val + k.val, h⟩) :
    (∑ k : Fin 4096, if v.val = 4096 * y.val + k.val then g k else 0) = if v.val / 4096 = y.val then f v else 0 := by
  have hv := v.isLt
  by_cases h : v.val / 4096 = y.val
  · rw [if_pos h, Finset.sum_eq_single (⟨v.val % 4096, Nat.mod_lt _ (by decide)⟩ : Fin 4096)]
    · have e : v.val = 4096 * y.val + v.val % 4096 := by omega
      rw [if_pos e, hg _ (by show 4096 * y.val + v.val % 4096 < 16384; omega)]
      exact congrArg f (Fin.ext e.symm)
    · intro k _ hk
      refine if_neg fun e => hk (Fin.ext ?_)
      have := k.isLt
      show k.val = v.val % 4096
      omega
    · intro h'; exact absurd (Finset.mem_univ _) h'
  · rw [if_neg h]
    refine Finset.sum_eq_zero fun k _ => if_neg fun e => h ?_
    have := k.isLt
    omega

/-- One of four terms, the rest zero, is that term. -/
theorem sum_four (x : EReal) (q : Fin 4) :
    (if q.val = 0 then x else 0) + (if q.val = 1 then x else 0) + (if q.val = 2 then x else 0) + (if q.val = 3 then x else 0) = x := by
  fin_cases q <;> simp

end Product

/-! ## The kernel's result over the reals -/

section Result

variable (m : (ℓ : Loc nD τ sig) → Buf (Elt Ideal) ℓ) (ids : S512x1.Idx → BitVec 32) (T : (⟨2, ![16384, 512]⟩ : Shape).Idx → EReal)

/-- Each device holds the ids, and its block of the table. -/
structure Holds : Prop where
  hids : ∀ c : Dev nD, m ((c : Thread nD τ).loc main_arg0) = ids
  htab : ∀ (c : Dev nD) (k : Fin 4096) (e : Fin 512) (h : 4096 * (yOf c).val + k.val < 16384),
    (m ((c : Thread nD τ).loc main_arg1) (ix2 k e) : EReal) = T (ix2 (⟨4096 * (yOf c).val + k.val, h⟩ : Fin 16384) e)
  hlt : ∀ p : Fin 512, (ids (ix2 p (0 : Fin 1))).toNat < 16384

variable {m ids T}

/-- A device's product at one entry: the entry of the table the id names, if the device's block holds it. -/
theorem part_apply (H : Holds m ids T) (c : Dev nD) (r : Fin 64) (e : Fin 512) :
    (part m c (ix2 r e) : EReal)
      = if (ids (ix2 (row (sOf c) r) (0 : Fin 1))).toNat / 4096 = (yOf c).val then T (ix2 (⟨_, H.hlt (row (sOf c) r)⟩ : Fin 16384) e) else 0 := by
  have hid : rowIds m c (ix2 r (0 : Fin 1)) = ids (ix2 (row (sOf c) r) (0 : Fin 1)) := (rowIds_apply m c r).trans (congrFun (H.hids c) _)
  unfold part
  rw [yword, pay_apply (yOf c) (rowIds m c) (xtab m c) r e (by rw [hid]; exact H.hlt _), hid, xtab_eq]
  exact sum_pick (fun v => T (ix2 v e)) ⟨_, H.hlt (row (sOf c) r)⟩ (yOf c) (fun k => m ((c : Thread nD τ).loc main_arg1) (ix2 k e)) (fun k h => H.htab c k e h)

theorem yOf_yAt (c : Dev nD) (j : Fin 4) : yOf (yAt c j) = j := by revert c j; decide +kernel
theorem sOf_yAt (c : Dev nD) (j : Fin 4) : sOf (yAt c j) = sOf c := by revert c j; decide +kernel
theorem sOf_sAt (c : Dev nD) (s : Fin 8) : sOf (sAt c s) = s := by revert c s; decide +kernel

/-- The sum along `y` at one entry is the entry of the table the id names. -/
theorem full_apply (H : Holds m ids T) (c : Dev nD) (r : Fin 64) (e : Fin 512) :
    (full m c (ix2 r e) : EReal) = T (ix2 (⟨_, H.hlt (row (sOf c) r)⟩ : Fin 16384) e) := by
  unfold full
  rw [addf_apply, addf_apply, addf_apply]
  have hp : ∀ j : Fin 4, (part m (yAt c j) (ix2 r e) : EReal)
      = if (ids (ix2 (row (sOf c) r) (0 : Fin 1))).toNat / 4096 = j.val then T (ix2 (⟨_, H.hlt (row (sOf c) r)⟩ : Fin 16384) e) else 0 := fun j => by
    rw [part_apply H]
    simp only [yOf_yAt, sOf_yAt]
  rw [hp 0, hp 1, hp 2, hp 3]
  have h := H.hlt (row (sOf c) r)
  exact sum_four _ ⟨(ids (ix2 (row (sOf c) r) (0 : Fin 1))).toNat / 4096, by omega⟩

/-- Row `p` of the kernel's result, on every device, is the row of the table that id `p` names. -/
theorem outAt_apply (H : Holds m ids T) (c : Dev nD) (p : Fin 512) (e : Fin 512) :
    (outAt m c (ix2 p e) : EReal) = T (ix2 (⟨_, H.hlt p⟩ : Fin 16384) e) := by
  have hp := p.isLt
  have hs : p.val / 64 < 8 := by omega
  have hr : p.val % 64 < 64 := Nat.mod_lt _ (by decide)
  have e1 : (oR ⟨p.val / 64, hs⟩).emb (ix2 (⟨p.val % 64, hr⟩ : Fin 64) e) = ix2 p e := by
    refine funext fun a => Fin.ext ?_
    match a with
    | ⟨0, _⟩ => show 64 * (p.val / 64) + 1 * (p.val % 64) = p.val; omega
    | ⟨1, _⟩ => show 0 + 1 * e.val = e.val; omega
  have e2 : row ⟨p.val / 64, hs⟩ ⟨p.val % 64, hr⟩ = p := Fin.ext (by show 64 * (p.val / 64) + p.val % 64 = p.val; omega)
  have h := rowsOf_emb (F := Ideal) (fun s => full m (sAt c s)) ⟨p.val / 64, hs⟩ (ix2 (⟨p.val % 64, hr⟩ : Fin 64) e)
  rw [e1] at h
  unfold outAt
  refine h.trans ?_
  rw [full_apply H]
  simp only [sOf_sAt, e2]

end Result

end Cert.KProof
-- ==== Proof.Ref.lean ====
/-
The reference's result: row `p` is the row of the table that id `p` names, for ids in range. And what the precondition
says: every id is below the number of the table's rows.
-/
module

public import proofs.«01_k».proof.Proof.Gen.ReferenceIdeal
public import proofs.«01_k».proof.Proof.Gen.ReferenceIdeal.Run
public import proofs.«01_k».proof.Pre_ids_in_range_KernelIdeal
public import Idealize.ShloMosaic.PureOps.Ideal
public import Idealize.ShloMosaic.Lib.ValueIdx
public import Idealize.ShloMosaic.Lib.Routing.Ops
public import Idealize.ShloMosaic.Lib.Routing.OpsPair
public import Idealize.ShloMosaic.Lib.ReduceAll
public import Idealize.ShloMosaic.Lib.WordCmp

@[expose] public section

noncomputable section

namespace Cert.KProof.Ref

open Cert.ReferenceIdeal Cert.ReferenceIdeal.Gen
open Idealize.ShloMosaic
open Idealize.ShloMosaic.ValueIdx Idealize.ShloMosaic.Routing

/-- The reference's result of the ids and the table. -/
def out (ids : S512x1.Idx → BitVec 32) (T : S16384x512.Idx → EReal) : S512x512.Idx → EReal :=
  truncf (F := Ideal) .bf16 (extf (F := Ideal) .f32 (Host.gather gather_S16384x512_S512x1_S512x512_1_0_n_n_0_1_1512 T
    (broadcastInDim S512x1 ![0] bcast_S512_S512x1_0 (select (cmpi .slt (shapeCast S512 ids shapeCasts_S512x1_S512) (broadcastInDim S512 ![] bcast_S_S512 (constantI S_ 32 0#32)))
      (addi (shapeCast S512 ids shapeCasts_S512x1_S512) (broadcastInDim S512 ![] bcast_S_S512 (constantI S_ 32 16384#32))) (shapeCast S512 ids shapeCasts_S512x1_S512)))) bitsLt_bf16_f32) bitsLt_bf16_f32

/-- Row `p` of it is the row of the table that id `p` names. -/
theorem out_apply (ids : S512x1.Idx → BitVec 32) (T : S16384x512.Idx → EReal) (p e : Fin 512) (h : (ids (ix2 p (0 : Fin 1))).toNat < 16384) :
    out ids T (ix2 p e) = T (ix2 (⟨_, h⟩ : Fin 16384) e) := by
  unfold out
  show Host.gather _ T _ (ix2 p e) = _
  refine gather_row _ rfl rfl rfl rfl rfl T _ p e ⟨_, h⟩ ?_ (by decide)
  rw [bcCol, WordCmp.select_at, WordCmp.cmpi_at, bc0]
  rw [show constantI S_ 32 0#32 ix0 = 0#32 from rfl, wrap_of_lt _ _ ?_]
  · rw [cast21 ids _ p (0 : Fin 1) p (by show p.val = p.val * 1 + 0; omega)]
    simp
  · rw [cast21 ids _ p (0 : Fin 1) p (by show p.val = p.val * 1 + 0; omega)]
    omega

/-- Under the precondition every id is the number of a row of the table. -/
theorem lt_of_pre [Cert.Pre_ids_in_range_KernelIdeal.Facts] (ids : S512x1.Idx → BitVec 32) (E)
    (h : Cert.Pre_ids_in_range_KernelIdeal.fn (F := Ideal) ids E = fun _ => 1#1) (p : Fin 512) : (ids (ix2 p (0 : Fin 1))).toNat < 16384 := by
  have h0 := congrFun h ix0
  dsimp only [Cert.Pre_ids_in_range_KernelIdeal.fn] at h0
  have : Subsingleton Cert.Pre_ids_in_range_KernelIdeal.S_.Idx := ⟨fun a b => funext fun i => i.elim0⟩
  have h1 := Host.reduce_andi_all _ _ _ _ _ h0 (ix2 p (0 : Fin 1))
  have h2 : IntOp.andi (IntOp.cmpi .sge (ids (ix2 p (0 : Fin 1))) 0#32) (IntOp.cmpi .slt (ids (ix2 p (0 : Fin 1))) (BitVec.ofNat 32 16384)) = 1#1 := h1
  rw [WordCmp.andi_sge_zero_slt_ofNat (by decide)] at h2
  exact (WordCmp.ofBool_decide_eq_one_iff _).1 h2

end Cert.KProof.Ref
-- ==== Proof.lean ====
/- The proof of the certificate's claims. The run of the kernel is proved once, for any float values (Proof/Launch.lean);
   both kernels' frames are read off it. The value claim joins what the kernel leaves on every device (Proof/Value.lean) and
   what the reference computes (Proof/Ref.lean): row `p` of either is the row of the table that id `p` names. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Idealize.ShloMosaic.ValueIdx
open Idealize.ShloMosaic.TcCoe

/-- The side conditions the precondition states. -/
theorem preFacts : Cert.Pre_ids_in_range_KernelIdeal.Facts where
  bcast_S_S512x1 := by decide
  reducesTo_S512x1_S_d0_1 := by decide
  h_S_ := by decide
theorem preFacts' : Cert.Pre_ids_in_range_ReferenceIdeal.Facts where
  bcast_S_S512x1 := by decide
  reducesTo_S512x1_S_d0_1 := by decide
  h_S_ := by decide

/-- The two kernels' body tables are the same functions, -/
theorem defs₀_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
/-- so the two programs are the same. -/
theorem defs_eq : Cert.Kernel.defs (F := Bits) = Cert.KernelIdeal.defs (F := Bits) :=
  congrArg (fun D => Pipeline.defs (Cert.KernelIdeal.pcfgs (F := Bits)) D) defs₀_eq

/-- The kernel runs, leaves its arguments as they were and every counter at zero: as printed, -/
theorem frame_kernel : Cert.quiescent_Kernel := by
  intro m ρ _
  rw [defs_eq]
  exact (θ_run Cert.KernelIdeal.defs _ _).mono
    (fun _ h => ⟨fun c => ⟨(h.1 c (0 : Fin 3)).trans (KProof.finalA_ids m ρ c), (h.1 c (1 : Fin 3)).trans (KProof.finalA_tab m ρ c)⟩, h.2⟩)
    (KProof.run_main (F := Bits) m ρ)

/-- over the reals, -/
theorem frame_ideal : Cert.quiescent_KernelIdeal := fun m ρ _ =>
  (θ_run Cert.KernelIdeal.defs _ _).mono
    (fun _ h => ⟨fun c => ⟨(h.1 c (0 : Fin 3)).trans (KProof.finalA_ids m ρ c), (h.1 c (1 : Fin 3)).trans (KProof.finalA_tab m ρ c)⟩, h.2⟩)
    (KProof.run_main (F := Ideal) m ρ)

/-- and so does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The block of the table that a device holds is the one its `y` coordinate numbers. -/
theorem block_apply (T : (⟨2, ![16384, 512]⟩ : Shape).Idx → EReal) (c : Dev Cert.KernelIdeal.nD) (k : Fin 4096) (e : Fin 512)
    (h : 4096 * (KProof.yOf c).val + k.val < 16384) :
    (Layout.blockN ⟨2, ![4096, 512]⟩ ⟨2, ![16384, 512]⟩ (Layout.meshBlock [2, 4, 4] ![[1], []] c) T) (ix2 k e)
      = T (ix2 (⟨4096 * (KProof.yOf c).val + k.val, h⟩ : Fin 16384) e) := by
  rw [Layout.blockN_apply]
  refine congrArg T (funext fun a => Fin.ext ?_)
  match a with
  | ⟨0, _⟩ =>
    show (c.val / 4 % 4 * 1 + 0) * 4096 + k.val = 4096 * (c.val / 4 % 4) + k.val
    omega
  | ⟨1, _⟩ =>
    show 0 * 512 + e.val = e.val
    omega

/-- For ids in range the kernel and the reference compute the same: row `p` is the row of the table that id `p` names. -/
theorem algebraic : Cert.algebraic_KernelIdeal_ReferenceIdeal_pre_ids_in_range_KernelIdeal
    (hPre_ids_in_range_KernelIdeal := preFacts) := by
  intro m ρ m' ρ' hpre hag
  have H : KProof.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    { hids := fun c => (hag c).1
      htab := fun c k e h => (congrFun (hag c).2 (ix2 k e)).trans (block_apply _ c k e h)
      hlt := fun p => by
        rw [← (hag (0 : Dev Cert.KernelIdeal.nD)).1]
        exact @KProof.Ref.lt_of_pre preFacts _ _ (hpre (0 : Dev Cert.KernelIdeal.nD)) p }
  refine ⟨KProof.Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono
      (fun _ h c => ⟨(h.1 c (2 : Fin 3)).trans ((KProof.finalA_out m ρ c).trans ?_), (h.1 c (0 : Fin 3)).trans (KProof.finalA_ids m ρ c),
        (h.1 c (1 : Fin 3)).trans (KProof.finalA_tab m ρ c)⟩)
      (KProof.run_main (F := Ideal) m ρ)
    funext i
    rw [eq_ix2 i]
    exact (KProof.outAt_apply H c (i 0) (i 1)).trans (KProof.Ref.out_apply _ _ (i 0) (i 1) (H.hlt (i 0))).symm
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, preFacts, preFacts',
    frame_kernel, frame_ideal, fun m ρ _ => frame_ideal m ρ trivial, frame_reference, fun m ρ _ => frame_reference m ρ trivial,
    trivial, algebraic⟩

end Cert.Proof

end
